-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_norm_no_tie [hPre_plain_norm_no_tie : Cert.Pre_plain_norm_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_plain_norm_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_plain_norm_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_plain_norm_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_norm_no_tie [hPre_plain_norm_no_tie : Cert.Pre_plain_norm_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_norm_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_plain_norm_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_plain_norm_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_plain_norm_no_tie [hKernelIdeal : Cert.KernelIdeal.Facts] [hPre_plain_norm_no_tie : Cert.Pre_plain_norm_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_norm_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_plain_norm_no_tie [hReferenceIdeal : Cert.ReferenceIdeal.Facts] [hPre_plain_norm_no_tie : Cert.Pre_plain_norm_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_norm_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_plain_norm_no_tie [hKernelIdeal : Cert.KernelIdeal.Facts] [hReferenceIdeal : Cert.ReferenceIdeal.Facts] [hPre_plain_norm_no_tie : Cert.Pre_plain_norm_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_norm_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_3)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_3) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_plain_norm_no_tie : Cert.Pre_plain_norm_no_tie.Facts),
    quiescent_Kernel (hKernel := hKernel)
    ∧ quiescent_KernelIdeal (hKernelIdeal := hKernelIdeal)
    ∧ quiescent_KernelIdeal_pre_plain_norm_no_tie (hKernelIdeal := hKernelIdeal) (hPre_plain_norm_no_tie := hPre_plain_norm_no_tie)
    ∧ quiescent_ReferenceIdeal (hReferenceIdeal := hReferenceIdeal)
    ∧ quiescent_ReferenceIdeal_pre_plain_norm_no_tie (hReferenceIdeal := hReferenceIdeal) (hPre_plain_norm_no_tie := hPre_plain_norm_no_tie)
    ∧ preserves_Kernel_KernelIdeal
    ∧ algebraic_KernelIdeal_ReferenceIdeal_pre_plain_norm_no_tie (hKernelIdeal := hKernelIdeal) (hReferenceIdeal := hReferenceIdeal) (hPre_plain_norm_no_tie := hPre_plain_norm_no_tie)
-- ==== Pre_plain_norm_no_tie.lean ====
abbrev S4x4096x2048 : Shape := ⟨3, ![4, 4096, 2048]⟩
abbrev S2048 : Shape := ⟨1, ![2048]⟩
abbrev S2048x256 : Shape := ⟨2, ![2048, 256]⟩
abbrev S256x64 : Shape := ⟨2, ![256, 64]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x256 : Shape := ⟨3, ![4, 4096, 256]⟩
abbrev S4x4096x64 : Shape := ⟨3, ![4, 4096, 64]⟩
abbrev S4x4096x9 : Shape := ⟨3, ![4, 4096, 9]⟩
abbrev S4x4096x8 : Shape := ⟨3, ![4, 4096, 8]⟩

class Facts : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x256 : S_.BroadcastsInDim S4x4096x256 (![] : Fin 0 → Fin S4x4096x256.rank)
  bcast_S_S4x4096x64 : S_.BroadcastsInDim S4x4096x64 (![] : Fin 0 → Fin S4x4096x64.rank)
  reducesTo_S4x4096x64_S4x4096_d2 : S4x4096x64.ReducesTo [2] S4x4096
  bcast_S_S4x4096 : S_.BroadcastsInDim S4x4096 (![] : Fin 0 → Fin S4x4096.rank)
  bcast_S4x4096x1_S4x4096x64_0_1_2 : S4x4096x1.BroadcastsInDim S4x4096x64 (![0, 1, 2] : Fin 3 → Fin S4x4096x64.rank)
  sliceFits_S4x4096x64_S4x4096x9 : S4x4096x64.Slices (fun _ => 0) S4x4096x9
  bcast_S_S2048 : S_.BroadcastsInDim S2048 (![] : Fin 0 → Fin S2048.rank)
  slices_S4x4096x9_S4x4096x8_0_0_1 : S4x4096x9.Slices ![0, 0, 1] S4x4096x8
  slices_S4x4096x9_S4x4096x8_0_0_0 : S4x4096x9.Slices ![0, 0, 0] S4x4096x8
  dot_S4x4096x2048_S2048x256_S4x4096x256_2_0_01_1_n_n_wf : DotDims.WF S4x4096x2048 S2048x256 S4x4096x256 [2] [0] [0, 1] [1] [] []
  dot_S4x4096x256_S256x64_S4x4096x64_2_0_01_1_n_n_wf : DotDims.WF S4x4096x256 S256x64 S4x4096x64 [2] [0] [0, 1] [1] [] []

variable [Facts]

def dot_S4x4096x2048_S2048x256_S4x4096x256_2_0_01_1_n_n : DotDims S4x4096x2048 S2048x256 S4x4096x256 where
  lhsContracting := [2]
  rhsContracting := [0]
  lhsNonContracting := [0, 1]
  rhsNonContracting := [1]
  lhsBatch := []
  rhsBatch := []
  wf := dot_S4x4096x2048_S2048x256_S4x4096x256_2_0_01_1_n_n_wf
def dot_S4x4096x256_S256x64_S4x4096x64_2_0_01_1_n_n : DotDims S4x4096x256 S256x64 S4x4096x64 where
  lhsContracting := [2]
  rhsContracting := [0]
  lhsNonContracting := [0, 1]
  rhsNonContracting := [1]
  lhsBatch := []
  rhsBatch := []
  wf := dot_S4x4096x256_S256x64_S4x4096x64_2_0_01_1_n_n_wf
def fn_where {F : FTy → Type} [FloatOps F] (arg0 : IVec S_ 1) (arg1 : FVec F S4x4096x1 .f32) (arg2 : FVec F S_ .f32) : FVec F S4x4096x1 .f32 :=
  let v0 : FVec F S_ .f32 := id arg2
  let v1 : FVec F S4x4096x1 .f32 := broadcastInDim S4x4096x1 ![] bcast_S_S4x4096x1 v0
  let v2 : FVec F S4x4096x1 .f32 := (fun p a b => select (broadcastInDim S4x4096x1 ![] bcast_S_S4x4096x1 p) a b) arg0 arg1 v1
  v2

def fn_var {F : FTy → Type} [FloatOps F] (arg0 : FVec F S4x4096x2048 .f32) (arg1 : IVec S_ 32) : FVec F S4x4096x1 .f32 :=
  let cst : FVec F S_ .f32 := constant S_ .f32 0x00000000#32
  let v0 : FVec F S4x4096 .f32 := (fun x v => Host.reduceAdd x v reducesTo_S4x4096x2048_S4x4096_d2 h_S_) arg0 cst
  let v1 : FVec F S4x4096x1 .f32 := broadcastInDim S4x4096x1 ![0, 1] bcast_S4x4096_S4x4096x1_0_1 v0
  let cst_0 : FVec F S_ .f32 := constant S_ .f32 0x45000000#32
  let v2 : FVec F S4x4096x1 .f32 := broadcastInDim S4x4096x1 ![] bcast_S_S4x4096x1 cst_0
  let v3 : FVec F S4x4096x1 .f32 := Host.divf v1 v2
  let v4 : FVec F S4x4096x2048 .f32 := broadcastInDim S4x4096x2048 ![0, 1, 2] bcast_S4x4096x1_S4x4096x2048_0_1_2 v3
  let v5 : FVec F S4x4096x2048 .f32 := subf arg0 v4
  let v6 : FVec F S4x4096x2048 .f32 := mulf v5 v5
  let v7 : FVec F S_ .f32 := sitofp .f32 arg1
  let cst_1 : FVec F S_ .f32 := constant S_ .f32 0x45000000#32
  let v8 : FVec F S_ .f32 := subf cst_1 v7
  let cst_2 : FVec F S_ .f32 := constant S_ .f32 0x00000000#32
  let v9 : FVec F S4x4096 .f32 := (fun x v => Host.reduceAdd x v reducesTo_S4x4096x2048_S4x4096_d2 h_S_) v6 cst_2
  let v10 : FVec F S4x4096x1 .f32 := broadcastInDim S4x4096x1 ![0, 1] bcast_S4x4096_S4x4096x1_0_1 v9
  let v11 : FVec F S4x4096x1 .f32 := broadcastInDim S4x4096x1 ![] bcast_S_S4x4096x1 v8
  let v12 : FVec F S4x4096x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4x4096x1 .f32 := fn_where (F := F) v13 v12 cst_4
  v14

def fn_part2 {F : FTy → Type} [FloatOps F] (main_arg1 : FVec F S2048 .f32) (main_arg2 : FVec F S2048 .f32) (main_v36 : FVec F S4x4096x64 .f32) (main_cst_8 : FVec F S_ .f32) : IVec S2048 1 × IVec S2048 1 × IVec S4x4096x8 1 :=
  let main_v37 : FVec F S4x4096 .f32 := (fun x v => Host.reduceAdd x v reducesTo_S4x4096x64_S4x4096_d2 h_S_) main_v36 main_cst_8
  let main_v38 : FVec F S4x4096x1 .f32 := broadcastInDim S4x4096x1 ![0, 1] bcast_S4x4096_S4x4096x1_0_1 main_v37
  let main_v39 : FVec F S4x4096x64 .f32 := broadcastInDim S4x4096x64 ![0, 1, 2] bcast_S4x4096x1_S4x4096x64_0_1_2 main_v38
  let main_v40 : FVec F S4x4096x64 .f32 := Host.divf main_v36 main_v39
  let main_values : FVec F S4x4096x9 .f32 := (fun x => (Host.topK S4x4096x9 2 (FloatOps.cmpfTotal .gt) x sliceFits_S4x4096x64_S4x4096x9).1) main_v40
  let main_indices : IVec S4x4096x9 32 := (fun x => (Host.topK S4x4096x9 2 (FloatOps.cmpfTotal .gt) x sliceFits_S4x4096x64_S4x4096x9).2) main_v40
  let main_cst_9 : FVec F S_ .f32 := constant S_ .f32 0x3F800000#32
  let main_v41 : FVec F S2048 .f32 := broadcastInDim S2048 ![] bcast_S_S2048 main_cst_9
  let main_v42 : IVec S2048 1 := cmpf .oeq main_arg1 main_v41
  let main_cst_10 : FVec F S_ .f32 := constant S_ .f32 0x00000000#32
  let main_v43 : FVec F S2048 .f32 := broadcastInDim S2048 ![] bcast_S_S2048 main_cst_10
  let main_v44 : IVec S2048 1 := cmpf .oeq main_arg2 main_v43
  let main_v45 : FVec F S4x4096x8 .f32 := (extractStridedSlice S4x4096x8 ![0, 0, 1] · slices_S4x4096x9_S4x4096x8_0_0_1) main_values
  let main_v46 : FVec F S4x4096x8 .f32 := (extractStridedSlice S4x4096x8 ![0, 0, 0] · slices_S4x4096x9_S4x4096x8_0_0_0) main_values
  let main_v47 : IVec S4x4096x8 1 := cmpf .olt main_v45 main_v46
  (main_v42, main_v44, main_v47)

def fn_part1 {F : FTy → Type} [FloatOps F] (main_arg1 : FVec F S2048 .f32) (main_arg2 : FVec F S2048 .f32) (main_arg3 : FVec F S2048x256 .f32) (main_arg4 : FVec F S256x64 .f32) (main_v0 : FVec F S_ .f32) (main_v15 : FVec F S4x4096x2048 .f32) (main_v17 : FVec F S4x4096x2048 .f32) : IVec S2048 1 × IVec S2048 1 × IVec S4x4096x8 1 :=
  let main_v18 : FVec F S4x4096x2048 .f32 := addf main_v15 main_v17
  let main_v19 : FVec F S4x4096x256 .f32 := (fun l r => Host.dotGeneral dot_S4x4096x2048_S2048x256_S4x4096x256_2_0_01_1_n_n none l r) main_v18 main_arg3
  let main_cst_4 : FVec F S_ .f32 := constant S_ .f32 0x3F000000#32
  let main_v20 : FVec F S4x4096x256 .f32 := broadcastInDim S4x4096x256 ![] bcast_S_S4x4096x256 main_cst_4
  let main_v21 : FVec F S4x4096x256 .f32 := mulf main_v20 main_v19
  let main_v22 : FVec F S4x4096x256 .f32 := Host.negf main_v19
  let main_cst_5 : FVec F S_ .f32 := constant S_ .f32 0x3F3504F3#32
  let main_v23 : FVec F S4x4096x256 .f32 := broadcastInDim S4x4096x256 ![] bcast_S_S4x4096x256 main_cst_5
  let main_v24 : FVec F S4x4096x256 .f32 := mulf main_v22 main_v23
  let main_v25 : FVec F S4x4096x256 .f32 := Host.erfc main_v24
  let main_v26 : FVec F S4x4096x256 .f32 := mulf main_v21 main_v25
  let main_v27 : FVec F S4x4096x64 .f32 := (fun l r => Host.dotGeneral dot_S4x4096x256_S256x64_S4x4096x64_2_0_01_1_n_n none l r) main_v26 main_arg4
  let main_v28 : FVec F S4x4096x64 .f32 := broadcastInDim S4x4096x64 ![] bcast_S_S4x4096x64 main_v0
  let main_v29 : FVec F S4x4096x64 .f32 := Host.divf main_v27 main_v28
  let main_cst_6 : FVec F S_ .f32 := constant S_ .f32 0xFF800000#32
  let main_v30 : FVec F S4x4096 .f32 := (fun x v => Host.reduce FloatOps.maximumf x v reducesTo_S4x4096x64_S4x4096_d2 h_S_) main_v29 main_cst_6
  let main_cst_7 : FVec F S_ .f32 := constant S_ .f32 0xFF800000#32
  let main_v31 : FVec F S4x4096 .f32 := broadcastInDim S4x4096 ![] bcast_S_S4x4096 main_cst_7
  let main_v32 : FVec F S4x4096 .f32 := maximumf main_v31 main_v30
  let main_v33 : FVec F S4x4096x1 .f32 := broadcastInDim S4x4096x1 ![0, 1] bcast_S4x4096_S4x4096x1_0_1 main_v32
  let main_v34 : FVec F S4x4096x64 .f32 := broadcastInDim S4x4096x64 ![0, 1, 2] bcast_S4x4096x1_S4x4096x64_0_1_2 main_v33
  let main_v35 : FVec F S4x4096x64 .f32 := subf main_v29 main_v34
  let main_v36 : FVec F S4x4096x64 .f32 := Host.exp main_v35
  let main_cst_8 : FVec F S_ .f32 := constant S_ .f32 0x00000000#32
  fn_part2 (F := F) main_arg1 main_arg2 main_v36 main_cst_8

def fn {F : FTy → Type} [FloatOps F] (main_arg0 : FVec F S4x4096x2048 .f32) (main_arg1 : FVec F S2048 .f32) (main_arg2 : FVec F S2048 .f32) (main_arg3 : FVec F S2048x256 .f32) (main_arg4 : FVec F S256x64 .f32) : IVec S2048 1 × IVec S2048 1 × IVec S4x4096x8 1 :=
  let main_cst : FVec F S_ .f32 := constant S_ .f32 0x40000000#32
  let main_cst_0 : FVec F S_ .f32 := constant S_ .f32 0x3DCCCCCD#32
  let main_v0 : FVec F S_ .f32 := maximumf main_cst main_cst_0
  let main_cst_1 : FVec F S_ .f32 := constant S_ .f32 0x00000000#32
  let main_v1 : FVec F S4x4096 .f32 := (fun x v => Host.reduceAdd x v reducesTo_S4x4096x2048_S4x4096_d2 h_S_) main_arg0 main_cst_1
  let main_v2 : FVec F S4x4096x1 .f32 := broadcastInDim S4x4096x1 ![0, 1] bcast_S4x4096_S4x4096x1_0_1 main_v1
  let main_cst_2 : FVec F S_ .f32 := constant S_ .f32 0x45000000#32
  let main_v3 : FVec F S4x4096x1 .f32 := broadcastInDim S4x4096x1 ![] bcast_S_S4x4096x1 main_cst_2
  let main_v4 : FVec F S4x4096x1 .f32 := Host.divf main_v2 main_v3
  let main_c : IVec S_ 32 := constantI S_ 32 0#32
  let main_v5 : FVec F S4x4096x1 .f32 := fn_var (F := F) main_arg0 main_c
  let main_v6 : FVec F S4x4096x2048 .f32 := broadcastInDim S4x4096x2048 ![0, 1, 2] bcast_S4x4096x1_S4x4096x2048_0_1_2 main_v4
  let main_v7 : FVec F S4x4096x2048 .f32 := subf main_arg0 main_v6
  let main_cst_3 : FVec F S_ .f32 := constant S_ .f32 0x3727C5AC#32
  let main_v8 : FVec F S4x4096x1 .f32 := broadcastInDim S4x4096x1 ![] bcast_S_S4x4096x1 main_cst_3
  let main_v9 : FVec F S4x4096x1 .f32 := addf main_v5 main_v8
  let main_v10 : FVec F S4x4096x1 .f32 := Host.sqrt main_v9
  let main_v11 : FVec F S4x4096x2048 .f32 := broadcastInDim S4x4096x2048 ![0, 1, 2] bcast_S4x4096x1_S4x4096x2048_0_1_2 main_v10
  let main_v12 : FVec F S4x4096x2048 .f32 := Host.divf main_v7 main_v11
  let main_v13 : FVec F S1x1x2048 .f32 := broadcastInDim S1x1x2048 ![2] bcast_S2048_S1x1x2048_2 main_arg1
  let main_v14 : FVec F S4x4096x2048 .f32 := broadcastInDim S4x4096x2048 ![0, 1, 2] bcast_S1x1x2048_S4x4096x2048_0_1_2 main_v13
  let main_v15 : FVec F S4x4096x2048 .f32 := mulf main_v12 main_v14
  let main_v16 : FVec F S1x1x2048 .f32 := broadcastInDim S1x1x2048 ![2] bcast_S2048_S1x1x2048_2 main_arg2
  let main_v17 : FVec F S4x4096x2048 .f32 := broadcastInDim S4x4096x2048 ![0, 1, 2] bcast_S1x1x2048_S4x4096x2048_0_1_2 main_v16
  fn_part1 (F := F) main_arg1 main_arg2 main_arg3 main_arg4 main_v0 main_v15 main_v17
-- ==== Kernel.lean ====
abbrev S4x4096x2048 : Shape := ⟨3, ![4, 4096, 2048]⟩
abbrev S2048 : Shape := ⟨1, ![2048]⟩
abbrev S2048x256 : Shape := ⟨2, ![2048, 256]⟩
abbrev S256x64 : Shape := ⟨2, ![256, 64]⟩
abbrev S16384x2048 : Shape := ⟨2, ![16384, 2048]⟩
abbrev S16384x64 : Shape := ⟨2, ![16384, 64]⟩
abbrev S16384x8 : Shape := ⟨2, ![16384, 8]⟩
abbrev S1x1 : Shape := ⟨2, ![1, 1]⟩
abbrev S2048x2048 : Shape := ⟨2, ![2048, 2048]⟩
abbrev S2048x64 : Shape := ⟨2, ![2048, 64]⟩
abbrev S2048x8 : Shape := ⟨2, ![2048, 8]⟩
abbrev S2x64 : Shape := ⟨2, ![2, 64]⟩
abbrev S2048x1 : Shape := ⟨2, ![2048, 1]⟩
abbrev S64 : Shape := ⟨1, ![64]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S2048x256, .f32⟩
  | .hbm, ⟨4, _⟩ => ⟨S256x64, .f32⟩
  | .hbm, ⟨5, _⟩ => ⟨S16384x2048, .f32⟩
  | .hbm, ⟨6, _⟩ => ⟨S16384x64, .f32⟩
  | .hbm, ⟨7, _⟩ => ⟨S16384x8, .i32⟩
  | .hbm, ⟨8, _⟩ => ⟨S16384x8, .f32⟩
  | .hbm, ⟨9, _⟩ => ⟨S1x1, .f32⟩
  | .local _ .vmem, ⟨0, _⟩ => ⟨S2048x2048, .f32⟩
  | .local _ .vmem, ⟨1, _⟩ => ⟨S2048x2048, .f32⟩
  | .local _ .vmem, ⟨2, _⟩ => ⟨S2048x256, .f32⟩
  | .local _ .vmem, ⟨3, _⟩ => ⟨S256x64, .f32⟩
  | .local _ .vmem, ⟨4, _⟩ => ⟨S2048x64, .f32⟩
  | .local _ .vmem, ⟨5, _⟩ => ⟨S2048x64, .f32⟩
  | .local _ .vmem, ⟨6, _⟩ => ⟨S2048x8, .i32⟩
  | .local _ .vmem, ⟨7, _⟩ => ⟨S2048x8, .i32⟩
  | .local _ .vmem, ⟨8, _⟩ => ⟨S2048x8, .f32⟩
  | .local _ .vmem, ⟨9, _⟩ => ⟨S2048x8, .f32⟩
  | .local _ .vmem, ⟨10, _⟩ => ⟨S1x1, .f32⟩
  | .local _ .vmem, ⟨11, _⟩ => ⟨S2x64, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v154 : BitVec 1 := Scalar.cmpi .eq arg0 c7_i32
  let v155 : BitVec 32 := Scalar.extui v154
  let c0_i32_66 : BitVec 32 := 0#32
  let v156 : BitVec 1 := Scalar.cmpi .ne v155 c0_i32_66
  v156

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x4096x2048 : Shape := ⟨3, ![4, 4096, 2048]⟩
abbrev S2048 : Shape := ⟨1, ![2048]⟩
abbrev S2048x256 : Shape := ⟨2, ![2048, 256]⟩
abbrev S256x64 : Shape := ⟨2, ![256, 64]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x8x64 : Shape := ⟨4, ![4, 4096, 8, 64]⟩
abbrev S64 : Shape := ⟨1, ![64]⟩
abbrev S16384x64 : Shape := ⟨2, ![16384, 64]⟩
abbrev S16384x8 : Shape := ⟨2, ![16384, 8]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S2048x256, .f32⟩
  | .hbm, ⟨4, _⟩ => ⟨S256x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .i32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x2048, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | .hbm, ⟨52, _⟩ => ⟨S4x4096x256, .f32⟩
  | .hbm, ⟨53, _⟩ => ⟨S_, .f32⟩
  | .hbm, ⟨54, _⟩ => ⟨S4x4096x256, .f32⟩
  | .hbm, ⟨55, _⟩ => ⟨S4x4096x256, .f32⟩
  | .hbm, ⟨56, _⟩ => ⟨S4x4096x256, .f32⟩
  | .hbm, ⟨57, _⟩ => ⟨S_, .f32⟩
  | .hbm, ⟨58, _⟩ => ⟨S4x4096x256, .f32⟩
  | .hbm, ⟨59, _⟩ => ⟨S4x4096x256, .f32⟩
  | .hbm, ⟨60, _⟩ => ⟨S4x4096x256, .f32⟩
  | .hbm, ⟨61, _⟩ => ⟨S4x4096x256, .f32⟩
  | .hbm, ⟨62, _⟩ => ⟨S4x4096x64, .f32⟩
  | .hbm, ⟨63, _⟩ => ⟨S4x4096x64, .f32⟩
  | .hbm, ⟨64, _⟩ => ⟨S4x4096x64, .f32⟩
  | .hbm, ⟨65, _⟩ => ⟨S_, .f32⟩
  | .hbm, ⟨66, _⟩ => ⟨S4x4096, .f32⟩
  | .hbm, ⟨67, _⟩ => ⟨S_, .f32⟩
  | .hbm, ⟨68, _⟩ => ⟨S4x4096, .f32⟩
  | .hbm, ⟨69, _⟩ => ⟨S4x4096, .f32⟩
  | .hbm, ⟨70, _⟩ => ⟨S4x4096x1, .f32⟩
  | .hbm, ⟨71, _⟩ => ⟨S4x4096x64, .f32⟩
  | .hbm, ⟨72, _⟩ => ⟨S4x4096x64, .f32⟩
  | .hbm, ⟨73, _⟩ => ⟨S4x4096x64, .f32⟩
  | .hbm, ⟨74, _⟩ => ⟨S_, .f32⟩
  | .hbm, ⟨75, _⟩ => ⟨S4x4096, .f32⟩
  | .hbm, ⟨76, _⟩ => ⟨S4x4096x1, .f32⟩
  | .hbm, ⟨77, _⟩ => ⟨S4x4096x64, .f32⟩
  | .hbm, ⟨78, _⟩ => ⟨S4x4096x64, .f32⟩
  | .hbm, ⟨79, _⟩ => ⟨S4x4096x8, .f32⟩
  | .hbm, ⟨80, _⟩ => ⟨S4x4096x8, .i32⟩
  | .hbm, ⟨81, _⟩ => ⟨S_, .f32⟩
  | .hbm, ⟨82, _⟩ => ⟨S4x4096, .f32⟩
  | .hbm, ⟨83, _⟩ => ⟨S4x4096x1, .f32⟩
  | .hbm, ⟨84, _⟩ => ⟨S_, .f32⟩
  | .hbm, ⟨85, _⟩ => ⟨S4x4096x1, .f32⟩
  | .hbm, ⟨86, _⟩ => ⟨S4x4096x1, .f32⟩
  | .hbm, ⟨87, _⟩ => ⟨S4x4096x8, .f32⟩
  | .hbm, ⟨88, _⟩ => ⟨S4x4096x8, .f32⟩
  | .hbm, ⟨89, _⟩ => ⟨S4x4096x8x1, .i32⟩
  | .hbm, ⟨90, _⟩ => ⟨S1x1x1x64, .i32⟩
  | .hbm, ⟨91, _⟩ => ⟨S4x4096x8x64, .i32⟩
  | .hbm, ⟨92, _⟩ => ⟨S4x4096x8x64, .i32⟩
  | .hbm, ⟨93, _⟩ => ⟨S4x4096x8x64, .i1⟩
  | .hbm, ⟨94, _⟩ => ⟨S4x4096x8x64, .f32⟩
  | .hbm, ⟨95, _⟩ => ⟨S_, .f32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S16384x64, .f32⟩
  | .hbm, ⟨111, _⟩ => ⟨S16384x8, .i32⟩
  | .hbm, ⟨112, _⟩ => ⟨S1x1, .f32⟩
  | .hbm, ⟨113, _⟩ => ⟨S16384x8, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_8 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_values : Ref sig .tc := ⟨.hbm, 79, rfl⟩
abbrev main_indices : Ref sig .tc := ⟨.hbm, 80, rfl⟩
abbrev main_cst_9 : Ref sig .tc := ⟨.hbm, 81, rfl⟩
abbrev main_v41 : Ref sig .tc := ⟨.hbm, 82, rfl⟩
abbrev main_v42 : Ref sig .tc := ⟨.hbm, 83, rfl⟩
abbrev main_cst_10 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v47 : Ref sig .tc := ⟨.hbm, 94, rfl⟩
abbrev main_cst_11 : Ref sig .tc := ⟨.hbm, 95, rfl⟩
abbrev main_v48 : Ref sig .tc := ⟨.hbm, 96, rfl⟩
abbrev main_cst_12 : Ref sig .tc := ⟨.hbm, 97, rfl⟩
abbrev main_v49 : Ref sig .tc := ⟨.hbm, 98, rfl⟩
abbrev main_v50 : Ref sig .tc := ⟨.hbm, 99, rfl⟩
abbrev main_cst_13 : Ref sig .tc := ⟨.hbm, 100, rfl⟩
abbrev main_v51 : Ref sig .tc := ⟨.hbm, 101, rfl⟩
abbrev main_cst_14 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_15 : Ref sig .tc := ⟨.hbm, 106, rfl⟩
abbrev main_v55 : Ref sig .tc := ⟨.hbm, 107, rfl⟩
abbrev main_cst_16 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩

abbrev nD : Nat := 1
abbrev τ : Topo := Topo.v7x

variable {F : FTy → Type} [FloatOps F]
-- ==== Proof.Row.lean ====
/-
  One token of the router, over the extended reals: its normalized embedding, its hidden layer, its logits and its
  probabilities, as functions of the embedding's entries and the two weight matrices — and the two spellings of each
  (the reciprocal of the standard deviation against a division by it, the error function against its complement, the
  half against a division by the temperature) shown equal.
-/
module

public import Idealize.ShloMosaic.PureOps.Ideal.Laws
public import Idealize.ShloMosaic.Lib.IdealHost

@[expose] public section

noncomputable section

open Idealize.ShloMosaic

namespace Cert.Router

/-! ## The constants -/

theorem c2048 : Ideal.ofBits FTy.f32 1157627904#32 = ((2048 : ℝ) : EReal) := by
  simp [Ideal.ofBits, Ideal.ieee, -EReal.coe_mul]; norm_num

theorem cHalf : Ideal.ofBits FTy.f32 1056964608#32 = ((1 / 2 : ℝ) : EReal) := by
  simp [Ideal.ofBits, Ideal.ieee, -EReal.coe_mul]; norm_num

theorem cTwo : Ideal.ofBits FTy.f32 1073741824#32 = ((2 : ℝ) : EReal) := by
  simp [Ideal.ofBits, Ideal.ieee, -EReal.coe_mul]; norm_num

theorem c64 : Ideal.ofBits FTy.f32 1115684864#32 = ((64 : ℝ) : EReal) := by
  simp [Ideal.ofBits, Ideal.ieee, -EReal.coe_mul]; norm_num

theorem cNegOne : Ideal.ofBits FTy.f32 3212836864#32 = ((-1 : ℝ) : EReal) := by
  simp [Ideal.ofBits, Ideal.ieee, -EReal.coe_mul]; norm_num

theorem c131072 : Ideal.ofBits FTy.f32 1207959552#32 = ((131072 : ℝ) : EReal) := by
  simp [Ideal.ofBits, Ideal.ieee, -EReal.coe_mul]; norm_num

theorem c16384 : Ideal.ofBits FTy.f32 1182793728#32 = ((16384 : ℝ) : EReal) := by
  simp [Ideal.ofBits, Ideal.ieee, -EReal.coe_mul]; norm_num

theorem cBot : Ideal.ofBits FTy.f32 4286578688#32 = ⊥ := by
  simp [Ideal.ofBits, Ideal.ieee]

theorem cTop : Ideal.ofBits FTy.f32 2139095040#32 = ⊤ := by
  simp [Ideal.ofBits, Ideal.ieee]

/-- The normalization's small constant is above zero. -/
theorem cEps_pos : 0 < Ideal.ofBits FTy.f32 925353388#32 := by
  simp [Ideal.ofBits, Ideal.ieee, -EReal.coe_mul]

/-- A tenth's pattern denotes a number below two. -/
theorem cTenth_le : Ideal.ofBits FTy.f32 1036831949#32 ≤ Ideal.ofBits FTy.f32 1073741824#32 := by
  rw [cTwo]
  simp [Ideal.ofBits, Ideal.ieee, -EReal.coe_mul]
  norm_num

/-! ## The normalization -/

/-- The mean of a token's embedding. -/
def rowMean (x : Fin 2048 → EReal) : EReal := Ideal.div (∑ k, x k) (Ideal.ofBits FTy.f32 1157627904#32)

/-- An entry less the mean. -/
def rowDev (x : Fin 2048 → EReal) (k : Fin 2048) : EReal := x k - rowMean x

/-- The mean square of the deviations. -/
def rowVar (x : Fin 2048 → EReal) : EReal :=
  Ideal.div (∑ k, rowDev x k * rowDev x k) (Ideal.ofBits FTy.f32 1157627904#32)

/-- The standard deviation, of the variance plus a small constant. -/
def rowSd (x : Fin 2048 → EReal) : EReal := Ideal.sqrt (rowVar x + Ideal.ofBits FTy.f32 925353388#32)

/-- A normalized entry: the deviation over the standard deviation. -/
def rowNorm (x : Fin 2048 → EReal) (k : Fin 2048) : EReal := Ideal.div (rowDev x k) (rowSd x)

theorem mul_self_nonneg' (a : EReal) : 0 ≤ a * a := by
  rcases le_total 0 a with h | h
  · exact mul_nonneg h h
  · rw [← neg_mul_neg]
    exact mul_nonneg (EReal.neg_nonneg.2 h) (EReal.neg_nonneg.2 h)

/-- A nonnegative value over a positive real is nonnegative. -/
theorem div_coe_nonneg {a : EReal} (ha : 0 ≤ a) {r : ℝ} (hr : 0 < r) : 0 ≤ Ideal.div a (r : EReal) := by
  rw [Ideal.div_coe hr.ne']
  exact mul_nonneg ha (EReal.coe_nonneg.2 (by positivity))

theorem rowVar_nonneg (x : Fin 2048 → EReal) : 0 ≤ rowVar x := by
  unfold rowVar
  rw [c2048]
  exact div_coe_nonneg (Finset.sum_nonneg fun k _ => mul_self_nonneg' _) (by norm_num)

/-- The root of a positive value is positive. -/
theorem sqrt_pos {a : EReal} (ha : 0 < a) : 0 < Ideal.sqrt a := by
  induction a with
  | bot => simp at ha
  | top => exact EReal.zero_lt_top
  | coe r =>
    have hr : 0 < r := EReal.coe_pos.1 ha
    show 0 < (if r < 0 then ⊥ else ((Real.sqrt r : ℝ) : EReal))
    rw [if_neg hr.le.not_gt]
    exact EReal.coe_pos.2 (Real.sqrt_pos.2 hr)

theorem rowSd_ne_zero (x : Fin 2048 → EReal) : rowSd x ≠ 0 :=
  (sqrt_pos (lt_of_lt_of_le cEps_pos (le_add_of_nonneg_left (rowVar_nonneg x)))).ne'

/-- Times the reciprocal of the standard deviation is over the standard deviation. -/
theorem mul_recip_sd (x : Fin 2048 → EReal) (k : Fin 2048) :
    rowDev x k * Ideal.div 1 (rowSd x) = rowNorm x k := by
  unfold rowNorm Ideal.div
  rw [if_neg (rowSd_ne_zero x), if_neg (rowSd_ne_zero x), one_mul]

/-! ## The hidden layer and the logits -/

/-- A hidden unit before its activation. -/
def rowHid (x : Fin 2048 → EReal) (W1 : Fin 2048 → Fin 256 → EReal) (e : Fin 256) : EReal :=
  ∑ k, rowNorm x k * W1 k e

/-- The activation: half the value times one plus the error function of the value over √2. -/
def gelu (h : EReal) : EReal :=
  Ideal.ofBits FTy.f32 1056964608#32 * h * (1 + Ideal.erf (h * Ideal.ofBits FTy.f32 1060439283#32))

/-- The activation by the complementary error function of minus the value over √2. -/
theorem gelu_erfc (h : EReal) :
    Ideal.ofBits FTy.f32 1056964608#32 * h * Ideal.erfc (-h * Ideal.ofBits FTy.f32 1060439283#32) = gelu h := by
  rw [neg_mul, Ideal.erfc_neg]
  rfl

/-- An expert's logit: the second product, halved. -/
def rowLogit (x : Fin 2048 → EReal) (W1 : Fin 2048 → Fin 256 → EReal) (W2 : Fin 256 → Fin 64 → EReal) (n : Fin 64) : EReal :=
  (∑ e, gelu (rowHid x W1 e) * W2 e n) * Ideal.ofBits FTy.f32 1056964608#32

/-- Over the greater of two and a tenth is times a half. -/
theorem div_temp (a : EReal) :
    Ideal.div a (max (Ideal.ofBits FTy.f32 1073741824#32) (Ideal.ofBits FTy.f32 1036831949#32))
      = a * Ideal.ofBits FTy.f32 1056964608#32 := by
  rw [max_eq_left cTenth_le, cTwo, Ideal.div_coe (by norm_num), cHalf]

/-! ## The softmax -/

/-- The greatest entry of a row of logits. -/
def rowMax (l : Fin 64 → EReal) : EReal := Finset.univ.fold max (Ideal.ofBits FTy.f32 4286578688#32) l

/-- The exponential of an entry less the greatest. -/
def rowExp (l : Fin 64 → EReal) (n : Fin 64) : EReal := Ideal.exp (l n - rowMax l)

/-- The exponentials over their sum. -/
def softmax (l : Fin 64 → EReal) (n : Fin 64) : EReal := Ideal.div (rowExp l n) (∑ k, rowExp l k)

theorem exp_nonneg (a : EReal) : 0 ≤ Ideal.exp a := by
  induction a with
  | bot => exact le_rfl
  | top => exact le_top
  | coe r => exact EReal.coe_nonneg.2 (Real.exp_pos r).le

/-- A row of probabilities is either everywhere −∞ (no exponential is above zero) or nowhere below zero. -/
theorem softmax_bot_or_nonneg (l : Fin 64 → EReal) : (∀ n, softmax l n = ⊥) ∨ ∀ n, 0 ≤ softmax l n := by
  have h0 : ∀ n, 0 ≤ rowExp l n := fun n => exp_nonneg _
  have hs : 0 ≤ ∑ k, rowExp l k := Finset.sum_nonneg fun k _ => h0 k
  by_cases hz : ∑ k, rowExp l k = 0
  · left
    intro n
    have hn : rowExp l n = 0 := (Finset.sum_eq_zero_iff_of_nonneg fun k _ => h0 k).1 hz n (Finset.mem_univ n)
    unfold softmax Ideal.div
    rw [if_pos hz, hn, if_neg (lt_irrefl _)]
  · right
    intro n
    unfold softmax Ideal.div
    rw [if_neg hz]
    exact mul_nonneg (h0 n) (EReal.inv_nonneg_of_nonneg hs)

/-- A token's probabilities over the experts. -/
def rowProbs (x : Fin 2048 → EReal) (W1 : Fin 2048 → Fin 256 → EReal) (W2 : Fin 256 → Fin 64 → EReal) (n : Fin 64) : EReal :=
  softmax (rowLogit x W1 W2) n

end Cert.Router

end
-- ==== Proof.BlockRead.lean ====
/-
  What the kernel computes on one block of 2048 tokens, read at one token and one expert: the probabilities are the
  token's `rowProbs`.
-/
module

public import proofs.«01_k».proof.Proof.Gen.KernelIdeal.Skeleton
public import proofs.«01_k».proof.Proof.Row
public import Idealize.ShloMosaic.Lib.Pointwise

@[expose] public section

set_option maxRecDepth 16384

noncomputable section

open Idealize.ShloMosaic
open Cert.KernelIdeal Cert.KernelIdeal.Gen

namespace Cert.Router

/-- The block's logits at an entry. -/
theorem pay6_apply (x : Vec Ideal S2048x2048 .f32) (W1 : Vec Ideal S2048x256 .f32) (W2 : Vec Ideal S256x64 .f32)
    (r : Fin 2048) (n : Fin 64) :
    k0_pay6 x W1 W2 (ix2 r n)
      = rowLogit (fun k => x (ix2 r k)) (fun k e => W1 (ix2 k e)) (fun e n => W2 (ix2 e n)) n := by
  pointwise [k0_pay6]
  unfold rowLogit gelu rowHid
  simp only [← mul_recip_sd]
  rfl

/-- The softmax of a block of logits at an entry. -/
theorem pay7_apply (l : FVec Ideal S2048x64 .f32) (r : Fin 2048) (n : Fin 64) :
    k0_pay7 l (ix2 r n) = softmax (fun n => l (ix2 r n)) n := by
  pointwise [k0_pay7]
  rfl

/-- The block's probabilities at an entry. -/
theorem blockProbs_apply (x : Vec Ideal S2048x2048 .f32) (W1 : Vec Ideal S2048x256 .f32) (W2 : Vec Ideal S256x64 .f32)
    (r : Fin 2048) (n : Fin 64) :
    k0_pay7 (k0_pay6 x W1 W2) (ix2 r n)
      = rowProbs (fun k => x (ix2 r k)) (fun k e => W1 (ix2 k e)) (fun e n => W2 (ix2 e n)) n := by
  rw [pay7_apply]
  simp only [pay6_apply]
  rfl

end Cert.Router

end
-- ==== Proof.Rounds.lean ====
/-
  Choosing the eight greatest of 64 probabilities in eight rounds: a round takes the row's greatest entry, the first
  position that holds it, and overwrites every entry equal to it by −1. Where the row is ranked — an order of the
  positions along which the entries do not rise, and fall strictly over the first nine — round `k` finds the `k`-th entry
  of the order at its position and overwrites it alone.
-/
module

public import proofs.«01_k».proof.Proof.Row

@[expose] public section

noncomputable section

open Idealize.ShloMosaic

namespace Cert.Router

/-- The row after a round: its greatest entries overwritten by −1. -/
def nextRow (v : Fin 64 → EReal) (c : Fin 64) : EReal :=
  if v c = rowMax v then Ideal.ofBits FTy.f32 3212836864#32 else v c

/-- The row after `k` rounds. -/
def curRow (p : Fin 64 → EReal) : Nat → Fin 64 → EReal
  | 0 => p
  | k + 1 => nextRow (curRow p k)

/-- The first position that holds the row's greatest entry, as a float. -/
def idxRow (v : Fin 64 → EReal) : EReal :=
  Finset.univ.fold min (Ideal.ofBits FTy.f32 2139095040#32) fun x : Fin 64 =>
    if v x = rowMax v then FloatOps.sitofp (F := Ideal) FTy.f32 (BitVec.ofNat 32 x.val) else Ideal.ofBits FTy.f32 1115684864#32

/-- Position `k` of the 64, for a choice `k` of the eight. -/
abbrev pos (k : Fin 8) : Fin 64 := ⟨k.val, by omega⟩

/-- A row of nonnegative entries that do not rise along the order `σ`, and fall strictly over its first nine. -/
structure Ranked (p : Fin 64 → EReal) (σ : Fin 64 ≃ Fin 64) : Prop where
  nonneg : ∀ n, 0 ≤ p n
  anti : ∀ i j, i ≤ j → p (σ j) ≤ p (σ i)
  strict : ∀ k : Fin 8, p (σ ⟨k.val + 1, by omega⟩) < p (σ (pos k))

/-- A row's greatest entry, where one entry is known to be at least every other. -/
theorem rowMax_eq (v : Fin 64 → EReal) (a : Fin 64) (h : ∀ c, v c ≤ v a) : rowMax v = v a := by
  unfold rowMax
  refine le_antisymm (Finset.fold_max_le _ |>.2 ⟨?_, fun c _ => h c⟩) (Finset.le_fold_max _ |>.2 (Or.inr ⟨a, Finset.mem_univ a, le_rfl⟩))
  rw [cBot]
  exact bot_le

/-- A position's float is the position. -/
theorem sitofp_pos (x : Fin 64) : FloatOps.sitofp (F := Ideal) FTy.f32 (BitVec.ofNat 32 x.val) = ((x.val : ℝ) : EReal) := by
  show (((BitVec.ofNat 32 x.val).toInt : ℝ) : EReal) = _
  have h : (BitVec.ofNat 32 x.val).toInt = (x.val : Int) := by
    have := x.isLt
    have e : (BitVec.ofNat 32 x.val).toNat = x.val := by
      rw [BitVec.toNat_ofNat]
      omega
    rw [BitVec.toInt_eq_toNat_of_lt (by omega), e]
  rw [h]
  norm_cast

/-- The first position holding the greatest entry, where one position alone holds it. -/
theorem idxRow_eq (v : Fin 64 → EReal) (a : Fin 64) (h : ∀ c, v c = rowMax v ↔ c = a) : idxRow v = ((a.val : ℝ) : EReal) := by
  unfold idxRow
  have hlt : ((a.val : ℝ) : EReal) ≤ Ideal.ofBits FTy.f32 1115684864#32 := by
    rw [c64]
    have := a.isLt
    exact EReal.coe_le_coe_iff.2 (by exact_mod_cast this.le)
  refine le_antisymm (Finset.fold_min_le _ |>.2 (Or.inr ⟨a, Finset.mem_univ a, ?_⟩)) (Finset.le_fold_min _ |>.2 ⟨?_, fun c _ => ?_⟩)
  · rw [if_pos ((h a).2 rfl), sitofp_pos]
  · rw [cTop]
    exact le_top
  · by_cases hc : c = a
    · rw [if_pos ((h c).2 hc), sitofp_pos, hc]
    · rw [if_neg fun e => hc ((h c).1 e)]
      exact hlt

/-- The float of a position converts back to the position's 32-bit word. -/
theorem fptosi_pos (x : Fin 64) : Ideal.fptosi 32 ((x.val : ℝ) : EReal) = BitVec.ofNat 32 x.val := by
  have hx := x.isLt
  have h : Ideal.toIntClamped (-(2 ^ (32 - 1) : Nat)) ((2 ^ (32 - 1) : Nat) - 1) ((x.val : ℝ) : EReal) = (x.val : Int) := by
    show max _ (min _ (if (0 : ℝ) ≤ (x.val : ℝ) then ⌊(x.val : ℝ)⌋ else ⌈(x.val : ℝ)⌉)) = _
    rw [if_pos (Nat.cast_nonneg _), Int.floor_natCast]
    omega
  unfold Ideal.fptosi
  rw [h]
  exact BitVec.ofInt_natCast 32 x.val

variable {p : Fin 64 → EReal} {σ : Fin 64 ≃ Fin 64}

/-- Every entry at or past position `k` of the order, except the `k`-th itself, is below the `k`-th. -/
theorem Ranked.lt (h : Ranked p σ) (k : Fin 8) (j : Fin 64) (hj : k.val < j.val) : p (σ j) < p (σ (pos k)) :=
  lt_of_le_of_lt (h.anti ⟨k.val + 1, by omega⟩ j (by show k.val + 1 ≤ j.val; omega)) (h.strict k)

theorem negOne_lt {a : EReal} (ha : 0 ≤ a) : Ideal.ofBits FTy.f32 3212836864#32 < a := by
  rw [cNegOne]
  exact lt_of_lt_of_le (EReal.coe_neg'.2 (by norm_num)) ha

/-- The row in which the first `k` entries of the order are overwritten. -/
def cutRow (p : Fin 64 → EReal) (σ : Fin 64 ≃ Fin 64) (k : Nat) (c : Fin 64) : EReal :=
  if (σ.symm c).val < k then Ideal.ofBits FTy.f32 3212836864#32 else p c

/-- An entry of that row is at most the `k`-th of the order, and equal to it only at its position. -/
theorem cutRow_le (h : Ranked p σ) (k : Fin 8) (c : Fin 64) :
    c = σ (pos k) ∧ cutRow p σ k.val c = p (σ (pos k)) ∨ c ≠ σ (pos k) ∧ cutRow p σ k.val c < p (σ (pos k)) := by
  obtain ⟨j, rfl⟩ := σ.surjective c
  unfold cutRow
  rw [Equiv.symm_apply_apply]
  rcases lt_trichotomy j.val k.val with hj | hj | hj
  · right
    rw [if_pos hj]
    exact ⟨fun e => by have := congrArg Fin.val (σ.injective e); simp at this; omega, negOne_lt (h.nonneg _)⟩
  · left
    have e : j = pos k := Fin.ext hj
    rw [if_neg (by omega), e]
    exact ⟨rfl, rfl⟩
  · right
    rw [if_neg (by omega)]
    exact ⟨fun e => by have := congrArg Fin.val (σ.injective e); simp at this; omega, h.lt k j hj⟩

/-- Its greatest entry is the `k`-th of the order. -/
theorem rowMax_cutRow (h : Ranked p σ) (k : Fin 8) : rowMax (cutRow p σ k.val) = p (σ (pos k)) := by
  have ha : cutRow p σ k.val (σ (pos k)) = p (σ (pos k)) := by
    rcases cutRow_le h k (σ (pos k)) with ⟨_, e⟩ | ⟨e, _⟩
    · exact e
    · exact absurd rfl e
  rw [rowMax_eq _ (σ (pos k)) fun c => ?_, ha]
  rw [ha]
  rcases cutRow_le h k c with ⟨_, e⟩ | ⟨_, e⟩
  · exact e.le
  · exact e.le

/-- Only the `k`-th position of the order holds it. -/
theorem cutRow_eq_max (h : Ranked p σ) (k : Fin 8) (c : Fin 64) :
    cutRow p σ k.val c = rowMax (cutRow p σ k.val) ↔ c = σ (pos k) := by
  rw [rowMax_cutRow h k]
  rcases cutRow_le h k c with ⟨e, e'⟩ | ⟨e, e'⟩
  · exact ⟨fun _ => e, fun _ => e'⟩
  · exact ⟨fun e'' => absurd e'' e'.ne, fun e'' => absurd e'' e⟩

/-- After `k` rounds exactly the first `k` entries of the order are overwritten. -/
theorem curRow_eq (h : Ranked p σ) (k : Nat) (hk : k ≤ 8) : curRow p k = cutRow p σ k := by
  induction k with
  | zero =>
    funext c
    unfold cutRow
    rw [if_neg (by omega)]
    rfl
  | succ k ih =>
    have e := ih (by omega)
    funext c
    have hm := cutRow_eq_max h ⟨k, by omega⟩ c
    simp only at hm
    show nextRow (curRow p k) c = _
    unfold nextRow
    rw [e]
    by_cases hc : c = σ (pos ⟨k, by omega⟩)
    · rw [if_pos (hm.2 hc), hc]
      unfold cutRow
      rw [Equiv.symm_apply_apply, if_pos (by simp)]
    · rw [if_neg fun e' => hc (hm.1 e')]
      have hne : (σ.symm c).val ≠ k := fun e' => hc (by
        rw [← σ.apply_symm_apply c]
        exact congrArg σ (Fin.ext e'))
      unfold cutRow
      by_cases hl : (σ.symm c).val < k
      · rw [if_pos hl, if_pos (by omega)]
      · rw [if_neg hl, if_neg (by omega)]

/-- Round `k` finds the `k`-th entry of the order … -/
theorem rowMax_curRow (h : Ranked p σ) (k : Fin 8) : rowMax (curRow p k.val) = p (σ (pos k)) := by
  rw [curRow_eq h k.val (by omega), rowMax_cutRow h k]

/-- … at its position. -/
theorem idxRow_curRow (h : Ranked p σ) (k : Fin 8) : idxRow (curRow p k.val) = (((σ (pos k)).val : ℝ) : EReal) := by
  rw [curRow_eq h k.val (by omega)]
  exact idxRow_eq _ _ (cutRow_eq_max h k)

/-- After eight rounds the entries below zero are the eight chosen. -/
theorem curRow_neg_iff (h : Ranked p σ) (c : Fin 64) : curRow p 8 c < 0 ↔ (σ.symm c).val < 8 := by
  rw [curRow_eq h 8 le_rfl]
  unfold cutRow
  by_cases hc : (σ.symm c).val < 8
  · rw [if_pos hc]
    exact ⟨fun _ => hc, fun _ => negOne_lt le_rfl⟩
  · rw [if_neg hc]
    exact ⟨fun e => absurd e (h.nonneg c).not_gt, fun e => absurd e hc⟩

/-- An expert's count of choices: of the eight, the one that is at it, if any. -/
theorem sum_choice (σ : Fin 64 ≃ Fin 64) (c : Fin 64) :
    (∑ k : Fin 8, if σ (pos k) = c then (1 : EReal) else 0) = if (σ.symm c).val < 8 then 1 else 0 := by
  by_cases hc : (σ.symm c).val < 8
  · rw [if_pos hc, Finset.sum_eq_single ⟨(σ.symm c).val, hc⟩]
    · rw [if_pos (σ.apply_symm_apply c)]
    · intro k _ hk
      rw [if_neg]
      rintro rfl
      exact hk (Fin.ext (by simp))
    · intro hn
      exact absurd (Finset.mem_univ _) hn
  · rw [if_neg hc]
    refine Finset.sum_eq_zero fun k _ => ?_
    rw [if_neg]
    rintro rfl
    exact hc (by rw [Equiv.symm_apply_apply]; exact k.isLt)

end Cert.Router

end
-- ==== Proof.BlockRounds.lean ====
/-
  The kernel's eight selection rounds on one block of 2048 tokens.

  A round takes a block of current values, the maximum of every row (`maxCol`), the lowest position holding it
  (`idxCol`), and writes `-1` over the maximum (`nextBlk`). `curBlk p k` is the block after `k` rounds on `p`. The
  kernel writes these rounds out one after the other; here its results are stated by the round's number, and read at
  one token through the row functions of the module `Rounds`.
-/
module

public import proofs.«01_k».proof.Proof.BlockRead
public import proofs.«01_k».proof.Proof.Rounds

@[expose] public section

set_option maxRecDepth 16384

noncomputable section

open Idealize.ShloMosaic
open Cert.KernelIdeal Cert.KernelIdeal.Gen

namespace Cert.Router

/-- The maximum of every row, as a column. -/
def maxCol (v : FVec Ideal S2048x64 .f32) : FVec Ideal S2048x1 .f32 :=
  shapeCast S2048x1 (multiReduction .maximumf [1] S2048 v 0xFF800000#32 reduces_S2048x64_S2048 (.inl rfl) rfl)
    shapeCasts_S2048_S2048x1

/-- Where a block meets its rows' maxima. -/
def maxMask (v : FVec Ideal S2048x64 .f32) : IVec S2048x64 1 :=
  cmpf .oeq v (broadcastTo S2048x64 (maxCol v) broadcasts_S2048x1_S2048x64)

/-- The lowest position of every row's maximum, as a column of numbers. -/
def idxCol (v : FVec Ideal S2048x64 .f32) : FVec Ideal S2048x1 .f32 :=
  shapeCast S2048x1 (multiReduction .minimumf [1] S2048
    (select (maxMask v) k0_pay8 (broadcast S2048x64 (Scalar.ofBits .f32 0x42800000#32))) 0x7F800000#32
    reduces_S2048x64_S2048 (.inl rfl) rfl) shapeCasts_S2048_S2048x1

/-- The block with its rows' maxima replaced by `-1`. -/
def nextBlk (v : FVec Ideal S2048x64 .f32) : FVec Ideal S2048x64 .f32 :=
  select (maxMask v) (broadcast S2048x64 (Scalar.ofBits .f32 0xBF800000#32)) v

/-- The block after `k` rounds. -/
def curBlk (p : FVec Ideal S2048x64 .f32) : ℕ → FVec Ideal S2048x64 .f32
  | 0 => p
  | k + 1 => nextBlk (curBlk p k)

theorem maxCol_apply (v : FVec Ideal S2048x64 .f32) (r : Fin 2048) :
    maxCol v (ix2 r 0) = rowMax (fun n => v (ix2 r n)) := by
  pointwise [maxCol]
  rfl

theorem nextBlk_apply (v : FVec Ideal S2048x64 .f32) (r : Fin 2048) (n : Fin 64) :
    nextBlk v (ix2 r n) = nextRow (fun n => v (ix2 r n)) n := by
  pointwise [nextBlk, maxMask, maxCol]
  rfl

theorem idxCol_apply (v : FVec Ideal S2048x64 .f32) (r : Fin 2048) :
    idxCol v (ix2 r 0) = idxRow (fun n => v (ix2 r n)) := by
  pointwise [idxCol, maxMask, maxCol, k0_pay8]
  rfl

/-- A row of the block after `k` rounds is the row after `k` rounds. -/
theorem curBlk_apply (p : FVec Ideal S2048x64 .f32) (r : Fin 2048) :
    ∀ (k : ℕ) (n : Fin 64), curBlk p k (ix2 r n) = curRow (fun n => p (ix2 r n)) k n
  | 0, _ => rfl
  | k + 1, n => by
    show nextBlk (curBlk p k) (ix2 r n) = nextRow (curRow _ k) n
    rw [nextBlk_apply]
    exact congrArg (fun v => nextRow v n) (funext fun n => curBlk_apply p r k n)

/-! ### The kernel's written-out rounds, by number -/

variable (l : FVec Ideal S2048x64 .f32)

/-- The values the kernel carries into its fourth round. -/
abbrev third : FVec Ideal S2048x64 .f32 := k0_pay20 l
/-- The rows' maxima of the fourth round. -/
abbrev fourthMax : FVec Ideal S2048 .f32 := k0_pay21 l

theorem cur1 : k0_pay12 l = curBlk (k0_pay7 l) 1 := rfl
theorem cur2 : k0_pay16 l = curBlk (k0_pay7 l) 2 := (show _ = nextBlk (k0_pay12 l) from rfl).trans (congrArg nextBlk (cur1 l))
theorem cur3 : k0_pay20 l = curBlk (k0_pay7 l) 3 := (show _ = nextBlk (k0_pay16 l) from rfl).trans (congrArg nextBlk (cur2 l))
theorem cur4 : k0_pay25 (third l) (fourthMax l) = curBlk (k0_pay7 l) 4 :=
  (show _ = nextBlk (k0_pay20 l) from rfl).trans (congrArg nextBlk (cur3 l))
theorem cur5 : k0_pay29 (third l) (fourthMax l) = curBlk (k0_pay7 l) 5 :=
  (show _ = nextBlk (k0_pay25 (third l) (fourthMax l)) from rfl).trans (congrArg nextBlk (cur4 l))
theorem cur6 : k0_pay33 (third l) (fourthMax l) = curBlk (k0_pay7 l) 6 :=
  (show _ = nextBlk (k0_pay29 (third l) (fourthMax l)) from rfl).trans (congrArg nextBlk (cur5 l))
theorem cur7 : k0_pay37 (third l) (fourthMax l) = curBlk (k0_pay7 l) 7 :=
  (show _ = nextBlk (k0_pay33 (third l) (fourthMax l)) from rfl).trans (congrArg nextBlk (cur6 l))

/-- The chosen positions of a block of probabilities: the eight rounds' position columns side by side, as integers. -/
def choiceBlk (p : FVec Ideal S2048x64 .f32) : IVec S2048x8 32 :=
  k0_pay1 k0_pay8 (idxCol (curBlk p 0)) (idxCol (curBlk p 1)) (idxCol (curBlk p 2)) (idxCol (curBlk p 3))
    (idxCol (curBlk p 4)) (idxCol (curBlk p 5)) (idxCol (curBlk p 6)) (maxMask (curBlk p 7))
    (Scalar.ofBits .f32 0x42800000#32)

/-- The weights of a block of probabilities: the eight rounds' maxima side by side, divided by their sum. -/
def weightBlk (p : FVec Ideal S2048x64 .f32) : FVec Ideal S2048x8 .f32 :=
  k0_pay2 (maxCol (curBlk p 0)) (maxCol (curBlk p 1)) (maxCol (curBlk p 2)) (maxCol (curBlk p 3))
    (maxCol (curBlk p 4)) (maxCol (curBlk p 5)) (maxCol (curBlk p 6)) (maxCol (curBlk p 7))

/-- The two rows of running sums after a block of probabilities. -/
def sumsBlk (p : FVec Ideal S2048x64 .f32) (acc : Vec Ideal S2x64 .f32) : FVec Ideal S2x64 .f32 :=
  k0_pay3 p (curBlk p 7) (maxMask (curBlk p 7)) acc

/-- The kernel's integer block is `choiceBlk` of its probabilities. -/
theorem choice_rounds :
    k0_pay1 k0_pay8 (k0_pay11 l) (k0_pay15 l) (k0_pay19 l) (k0_pay24 k0_pay8 (third l) (fourthMax l))
      (k0_pay28 k0_pay8 (third l) (fourthMax l)) (k0_pay32 k0_pay8 (third l) (fourthMax l))
      (k0_pay36 k0_pay8 (third l) (fourthMax l)) (k0_pay39 (third l) (fourthMax l)) (Scalar.ofBits .f32 0x42800000#32)
      = choiceBlk (k0_pay7 l) := by
  unfold choiceBlk
  rw [show k0_pay11 l = idxCol (k0_pay7 l) from rfl, show k0_pay15 l = idxCol (k0_pay12 l) from rfl,
    show k0_pay19 l = idxCol (k0_pay16 l) from rfl,
    show k0_pay24 k0_pay8 (third l) (fourthMax l) = idxCol (k0_pay20 l) from rfl,
    show k0_pay28 k0_pay8 (third l) (fourthMax l) = idxCol (k0_pay25 (third l) (fourthMax l)) from rfl,
    show k0_pay32 k0_pay8 (third l) (fourthMax l) = idxCol (k0_pay29 (third l) (fourthMax l)) from rfl,
    show k0_pay36 k0_pay8 (third l) (fourthMax l) = idxCol (k0_pay33 (third l) (fourthMax l)) from rfl,
    show k0_pay39 (third l) (fourthMax l) = maxMask (k0_pay37 (third l) (fourthMax l)) from rfl,
    cur1, cur2, cur4, cur5, cur6, cur7, cur3]
  rfl

/-- The kernel's weight block is `weightBlk` of its probabilities. -/
theorem weight_rounds :
    k0_pay2 (k0_pay9 l) (k0_pay13 l) (k0_pay17 l) (k0_pay22 (fourthMax l))
      (k0_pay26 (third l) (fourthMax l)) (k0_pay30 (third l) (fourthMax l))
      (k0_pay34 (third l) (fourthMax l)) (k0_pay38 (third l) (fourthMax l))
      = weightBlk (k0_pay7 l) := by
  unfold weightBlk
  rw [show k0_pay9 l = maxCol (k0_pay7 l) from rfl, show k0_pay13 l = maxCol (k0_pay12 l) from rfl,
    show k0_pay17 l = maxCol (k0_pay16 l) from rfl, show k0_pay22 (fourthMax l) = maxCol (k0_pay20 l) from rfl,
    show k0_pay26 (third l) (fourthMax l) = maxCol (k0_pay25 (third l) (fourthMax l)) from rfl,
    show k0_pay30 (third l) (fourthMax l) = maxCol (k0_pay29 (third l) (fourthMax l)) from rfl,
    show k0_pay34 (third l) (fourthMax l) = maxCol (k0_pay33 (third l) (fourthMax l)) from rfl,
    show k0_pay38 (third l) (fourthMax l) = maxCol (k0_pay37 (third l) (fourthMax l)) from rfl,
    cur1, cur2, cur4, cur5, cur6, cur7, cur3]
  rfl

/-- The kernel's update of the running sums is `sumsBlk` of its probabilities. -/
theorem sums_rounds (acc : Vec Ideal S2x64 .f32) :
    k0_pay3 (k0_pay7 l) (k0_pay37 (third l) (fourthMax l)) (k0_pay39 (third l) (fourthMax l)) acc
      = sumsBlk (k0_pay7 l) acc := by
  unfold sumsBlk
  rw [show k0_pay39 (third l) (fourthMax l) = maxMask (k0_pay37 (third l) (fourthMax l)) from rfl, cur7]

end Cert.Router
-- ==== Proof.KernelOut.lean ====
/-
  What the kernel's body leaves at each grid point, in each of its three cases (first point, middle point, last point):
  the block's probabilities, chosen experts and weights, the updated running sums, and at the last point the
  load-balancing term. The body's stores are read back from the run's record of them.
-/
module

public import proofs.«01_k».proof.Proof.BlockRounds
public import proofs.«01_k».proof.Proof.Gen.KernelIdeal.Frame
public import Idealize.ShloMosaic.Lib.Tactic

@[expose] public section

noncomputable section

open Idealize.ShloMosaic Idealize.ShloMosaic.TcCoe Idealize.SL.Sem
open Cert.KernelIdeal Cert.KernelIdeal.Gen

namespace Cert.Router

variable (c : Dev nD) (i : grid0.Coords)
  (a1 : Memref sig .tc .vmem S2048x2048 .f32) (h1 : a1.IsWhole) (a2 : Memref sig .tc .vmem S2048x256 .f32) (h2 : a2.IsWhole)
  (a3 : Memref sig .tc .vmem S256x64 .f32) (h3 : a3.IsWhole) (a4 : Memref sig .tc .vmem S2048x64 .f32) (h4 : a4.IsWhole)
  (a5 : Memref sig .tc .vmem S2048x8 .i32) (h5 : a5.IsWhole) (a6 : Memref sig .tc .vmem S2048x8 .f32) (h6 : a6.IsWhole)
  (a7 : Memref sig .tc .vmem S1x1 .f32) (h7 : a7.IsWhole) (a8 : Memref sig .tc .vmem S2x64 .f32) (h8 : a8.IsWhole)
  (x : Vec Ideal S2048x2048 .f32) (W1 : Vec Ideal S2048x256 .f32) (W2 : Vec Ideal S256x64 .f32) (acc : Vec Ideal S2x64 .f32)

theorem zero_start : (![0, 0] : Fin 2 → Nat) = fun _ => 0 := funext fun a => by fin_cases a <;> rfl

/-! A load of a whole array reads what the array holds. -/

theorem ld_tokens : View.ld x (Rect.unit ![0, 0] ![2048, 2048] inb_S2048x2048_S2048x2048_0_0) = x :=
  View.ld_unit_zero (S := S2048x2048) zero_start _ _
theorem ld_up : View.ld W1 (Rect.unit ![0, 0] ![2048, 256] inb_S2048x256_S2048x256_0_0) = W1 :=
  View.ld_unit_zero (S := S2048x256) zero_start _ _
theorem ld_down : View.ld W2 (Rect.unit ![0, 0] ![256, 64] inb_S256x64_S256x64_0_0) = W2 :=
  View.ld_unit_zero (S := S256x64) zero_start _ _
theorem ld_sums : View.ld acc (Rect.unit ![0, 0] ![2, 64] inb_S2x64_S2x64_0_0) = acc :=
  View.ld_unit_zero (S := S2x64) zero_start _ _

/-- A block's probabilities. -/
abbrev blockProbs : FVec Ideal S2048x64 .f32 := k0_pay7 (k0_pay6 x W1 W2)

/-- The first point stores its block's probabilities, choice and weights, and starts the running sums from zero. -/
theorem first_point (hc0 : cond0_0 i) (hc1 : ¬cond0_1 i) :
    out0_A_3 c i a1 h1 a2 h2 a3 h3 a4 h4 a5 h5 a6 h6 a7 h7 a8 h8 hc0 hc1 x W1 W2 = blockProbs x W1 W2
      ∧ out0_A_4 c i a1 h1 a2 h2 a3 h3 a4 h4 a5 h5 a6 h6 a7 h7 a8 h8 hc0 hc1 x W1 W2 = choiceBlk (blockProbs x W1 W2)
      ∧ out0_A_5 c i a1 h1 a2 h2 a3 h3 a4 h4 a5 h5 a6 h6 a7 h7 a8 h8 hc0 hc1 x W1 W2 = weightBlk (blockProbs x W1 W2)
      ∧ sout0_A_0 c i a1 h1 a2 h2 a3 h3 a4 h4 a5 h5 a6 h6 a7 h7 a8 h8 hc0 hc1 x W1 W2 = sumsBlk (blockProbs x W1 W2) (k0_pay5 (F := Ideal)) := by
  unfold out0_A_3 out0_A_4 out0_A_5 sout0_A_0
  refine ⟨(View.read_writes_eq_canon _ _ _ fun y => cover0_A_3 c i a1 h1 a2 h2 a3 h3 a4 h4 a5 h5 a6 h6 a7 h7 a8 h8 _ _ _ _ _ y).trans ?_,
    (View.read_writes_eq_canon _ _ _ fun y => cover0_A_4 c i a1 h1 a2 h2 a3 h3 a4 h4 a5 h5 a6 h6 a7 h7 a8 h8 _ _ _ _ _ y).trans ?_,
    (View.read_writes_eq_canon _ _ _ fun y => cover0_A_5 c i a1 h1 a2 h2 a3 h3 a4 h4 a5 h5 a6 h6 a7 h7 a8 h8 _ _ _ _ _ y).trans ?_,
    (View.read_writes_eq_canon _ _ _ fun y => scover0_A_0 c i a1 h1 a2 h2 a3 h3 a4 h4 a5 h5 a6 h6 a7 h7 a8 h8 _ _ _ _ _ y).trans ?_⟩
  all_goals
    unfold kernelRun0_A
    dsimp only
    sl_unfold_words
    first
      | rw [View.canon_unit_zero zero_start]
      | rw [View.canon_cons_unit_zero (S := S2x64) zero_start, View.readCov_unit_zero (S := S2x64) _ zero_start]
    simp only [View.readAt_eq_ld, h1.read_unread, h2.read_unread, h3.read_unread, h8.read_unread, ld_tokens, ld_up,
      ld_down, ld_sums, shapeCast_self]
  · exact choice_rounds ..
  · exact weight_rounds ..
  · exact sums_rounds ..

/-- A middle point stores its block's probabilities, choice and weights, and adds to the running sums. -/
theorem middle_point (hc0 : ¬cond0_0 i) (hc1 : ¬cond0_1 i) :
    out0_B_3 c i a1 h1 a2 h2 a3 h3 a4 h4 a5 h5 a6 h6 a7 h7 a8 h8 hc0 hc1 x W1 W2 acc = blockProbs x W1 W2
      ∧ out0_B_4 c i a1 h1 a2 h2 a3 h3 a4 h4 a5 h5 a6 h6 a7 h7 a8 h8 hc0 hc1 x W1 W2 acc = choiceBlk (blockProbs x W1 W2)
      ∧ out0_B_5 c i a1 h1 a2 h2 a3 h3 a4 h4 a5 h5 a6 h6 a7 h7 a8 h8 hc0 hc1 x W1 W2 acc = weightBlk (blockProbs x W1 W2)
      ∧ sout0_B_0 c i a1 h1 a2 h2 a3 h3 a4 h4 a5 h5 a6 h6 a7 h7 a8 h8 hc0 hc1 x W1 W2 acc = sumsBlk (blockProbs x W1 W2) acc := by
  unfold out0_B_3 out0_B_4 out0_B_5 sout0_B_0
  refine ⟨(View.read_writes_eq_canon _ _ _ fun y => cover0_B_3 c i a1 h1 a2 h2 a3 h3 a4 h4 a5 h5 a6 h6 a7 h7 a8 h8 _ _ _ _ _ _ y).trans ?_,
    (View.read_writes_eq_canon _ _ _ fun y => cover0_B_4 c i a1 h1 a2 h2 a3 h3 a4 h4 a5 h5 a6 h6 a7 h7 a8 h8 _ _ _ _ _ _ y).trans ?_,
    (View.read_writes_eq_canon _ _ _ fun y => cover0_B_5 c i a1 h1 a2 h2 a3 h3 a4 h4 a5 h5 a6 h6 a7 h7 a8 h8 _ _ _ _ _ _ y).trans ?_,
    (View.read_writes_eq_canon _ _ _ fun y => scover0_B_0 c i a1 h1 a2 h2 a3 h3 a4 h4 a5 h5 a6 h6 a7 h7 a8 h8 _ _ _ _ _ _ y).trans ?_⟩
  all_goals
    unfold kernelRun0_B
    dsimp only
    sl_unfold_words
    rw [View.canon_unit_zero zero_start]
    simp only [View.readAt_eq_ld, h1.read_unread, h2.read_unread, h3.read_unread, h8.read_unread, ld_tokens, ld_up,
      ld_down, ld_sums, shapeCast_self]
  · exact choice_rounds ..
  · exact weight_rounds ..
  · exact sums_rounds ..

/-- The last point does as a middle one, and stores the load-balancing term of the sums that it leaves. -/
theorem last_point (hc0 : ¬cond0_0 i) (hc1 : cond0_1 i) :
    out0_C_3 c i a1 h1 a2 h2 a3 h3 a4 h4 a5 h5 a6 h6 a7 h7 a8 h8 hc0 hc1 x W1 W2 acc = blockProbs x W1 W2
      ∧ out0_C_4 c i a1 h1 a2 h2 a3 h3 a4 h4 a5 h5 a6 h6 a7 h7 a8 h8 hc0 hc1 x W1 W2 acc = choiceBlk (blockProbs x W1 W2)
      ∧ out0_C_5 c i a1 h1 a2 h2 a3 h3 a4 h4 a5 h5 a6 h6 a7 h7 a8 h8 hc0 hc1 x W1 W2 acc = weightBlk (blockProbs x W1 W2)
      ∧ sout0_C_0 c i a1 h1 a2 h2 a3 h3 a4 h4 a5 h5 a6 h6 a7 h7 a8 h8 hc0 hc1 x W1 W2 acc = sumsBlk (blockProbs x W1 W2) acc
      ∧ out0_C_6 c i a1 h1 a2 h2 a3 h3 a4 h4 a5 h5 a6 h6 a7 h7 a8 h8 hc0 hc1 x W1 W2 acc = k0_pay4 (F := Ideal) (sumsBlk (blockProbs x W1 W2) acc) := by
  unfold out0_C_3 out0_C_4 out0_C_5 sout0_C_0 out0_C_6
  refine ⟨(View.read_writes_eq_canon _ _ _ fun y => cover0_C_3 c i a1 h1 a2 h2 a3 h3 a4 h4 a5 h5 a6 h6 a7 h7 a8 h8 _ _ _ _ _ _ y).trans ?_,
    (View.read_writes_eq_canon _ _ _ fun y => cover0_C_4 c i a1 h1 a2 h2 a3 h3 a4 h4 a5 h5 a6 h6 a7 h7 a8 h8 _ _ _ _ _ _ y).trans ?_,
    (View.read_writes_eq_canon _ _ _ fun y => cover0_C_5 c i a1 h1 a2 h2 a3 h3 a4 h4 a5 h5 a6 h6 a7 h7 a8 h8 _ _ _ _ _ _ y).trans ?_,
    (View.read_writes_eq_canon _ _ _ fun y => scover0_C_0 c i a1 h1 a2 h2 a3 h3 a4 h4 a5 h5 a6 h6 a7 h7 a8 h8 _ _ _ _ _ _ y).trans ?_,
    (View.read_writes_eq_canon _ _ _ fun y => cover0_C_6 c i a1 h1 a2 h2 a3 h3 a4 h4 a5 h5 a6 h6 a7 h7 a8 h8 _ _ _ _ _ _ y).trans ?_⟩
  all_goals
    unfold kernelRun0_C
    dsimp only
    sl_unfold_words
    first
      | rw [View.canon_unit_zero (S := S1x1) zero_start, View.readCov_unit_zero (S := S2x64) _ zero_start]
      | rw [View.canon_unit_zero zero_start]
    simp only [View.readAt_eq_ld, h1.read_unread, h2.read_unread, h3.read_unread, h8.read_unread, ld_tokens, ld_up,
      ld_down, ld_sums, shapeCast_self]
  · exact choice_rounds ..
  · exact weight_rounds ..
  · exact sums_rounds ..
  · rw [← sums_rounds]

end Cert.Router
-- ==== Proof.HostDefs.lean ====
/-
  The router as the reference computes it on whole arrays, stage by stage: normalization, hidden layer, logits,
  softmax, the eight chosen experts, and the load-balancing term. Each stage is one definition; the two theorems at the
  end say that the precondition and the reference's four results are these definitions at the argument arrays.
-/
module

public import proofs.«01_k».proof.Defs
public import proofs.«01_k».proof.Proof.Gen.ReferenceIdeal.Run

@[expose] public section

set_option maxRecDepth 16384

noncomputable section

open Idealize.ShloMosaic Idealize.ShloMosaic.TcCoe

namespace Cert.Router

/-- The shape relations the precondition's operations ask for hold. -/
instance preFacts : Cert.Pre_plain_norm_no_tie.Facts where
  reducesTo_S4x4096x2048_S4x4096_d2 := by decide
  h_S_ := by decide
  bcast_S4x4096_S4x4096x1_0_1 := by decide
  bcast_S_S4x4096x1 := by decide
  bcast_S4x4096x1_S4x4096x2048_0_1_2 := by decide
  bcast_S2048_S1x1x2048_2 := by decide
  bcast_S1x1x2048_S4x4096x2048_0_1_2 := by decide
  bcast_S_S4x4096x256 := by decide
  bcast_S_S4x4096x64 := by decide
  reducesTo_S4x4096x64_S4x4096_d2 := by decide
  bcast_S_S4x4096 := by decide
  bcast_S4x4096x1_S4x4096x64_0_1_2 := by decide
  sliceFits_S4x4096x64_S4x4096x9 := by decide
  bcast_S_S2048 := by decide
  slices_S4x4096x9_S4x4096x8_0_0_1 := by decide
  slices_S4x4096x9_S4x4096x8_0_0_0 := by decide
  dot_S4x4096x2048_S2048x256_S4x4096x256_2_0_01_1_n_n_wf := by decide
  dot_S4x4096x256_S256x64_S4x4096x64_2_0_01_1_n_n_wf := by decide

open Cert.ReferenceIdeal

/-- The mean of each token's embedding. -/
def meanH (x : Vec Ideal S4x4096x2048 .f32) : Vec Ideal S4x4096x1 .f32 :=
  Host.divf (broadcastInDim S4x4096x1 ![0, 1] Gen.bcast_S4x4096_S4x4096x1_0_1
      (Host.reduceAdd (F := Ideal) x (constant S_ .f32 0x00000000#32) Gen.reducesTo_S4x4096x2048_S4x4096_d2 Gen.h_S_))
    (broadcastInDim S4x4096x1 ![] Gen.bcast_S_S4x4096x1 (constant S_ .f32 0x45000000#32))

/-- Each token's embedding less its mean. -/
def devH (x : Vec Ideal S4x4096x2048 .f32) : Vec Ideal S4x4096x2048 .f32 :=
  subf (F := Ideal) (φ := .f32) x (broadcastInDim S4x4096x2048 ![0, 1, 2] Gen.bcast_S4x4096x1_S4x4096x2048_0_1_2 (meanH x))

/-- The variance of each token's embedding: the mean square of the deviations, over 2048 less zero. -/
def varH (x : Vec Ideal S4x4096x2048 .f32) : Vec Ideal S4x4096x1 .f32 :=
  select
    (broadcastInDim S4x4096x1 ![] Gen.bcast_S_S4x4096x1
      (cmpf (F := Ideal) .ogt (subf (constant S_ .f32 0x45000000#32) (sitofp .f32 (constantI S_ 32 0#32))) (constant S_ .f32 0x00000000#32)))
    (Host.divf (broadcastInDim S4x4096x1 ![0, 1] Gen.bcast_S4x4096_S4x4096x1_0_1
        (Host.reduceAdd (F := Ideal) (mulf (F := Ideal) (φ := .f32) (devH x) (devH x)) (constant S_ .f32 0x00000000#32) Gen.reducesTo_S4x4096x2048_S4x4096_d2 Gen.h_S_))
      (broadcastInDim S4x4096x1 ![] Gen.bcast_S_S4x4096x1 (subf (constant S_ .f32 0x45000000#32) (sitofp .f32 (constantI S_ 32 0#32)))))
    (broadcastInDim S4x4096x1 ![] Gen.bcast_S_S4x4096x1 (constant (F := Ideal) S_ .f32 0x7FC00000#32))

/-- The layer-normalized embeddings: deviation over standard deviation, times the weight, plus the bias. -/
def normH (x : Vec Ideal S4x4096x2048 .f32) (w b : Vec Ideal S2048 .f32) : Vec Ideal S4x4096x2048 .f32 :=
  addf (F := Ideal) (φ := .f32)
    (mulf
      (Host.divf (devH x) (broadcastInDim S4x4096x2048 ![0, 1, 2] Gen.bcast_S4x4096x1_S4x4096x2048_0_1_2
        (Host.sqrt (addf (varH x) (broadcastInDim S4x4096x1 ![] Gen.bcast_S_S4x4096x1 (constant S_ .f32 0x3727C5AC#32))))))
      (broadcastInDim S4x4096x2048 ![0, 1, 2] Gen.bcast_S1x1x2048_S4x4096x2048_0_1_2
        (broadcastInDim S1x1x2048 ![2] Gen.bcast_S2048_S1x1x2048_2 w)))
    (broadcastInDim S4x4096x2048 ![0, 1, 2] Gen.bcast_S1x1x2048_S4x4096x2048_0_1_2
      (broadcastInDim S1x1x2048 ![2] Gen.bcast_S2048_S1x1x2048_2 b))

/-- The hidden layer before its activation. -/
def hidH (n : Vec Ideal S4x4096x2048 .f32) (W1 : Vec Ideal S2048x256 .f32) : Vec Ideal S4x4096x256 .f32 :=
  Host.dotGeneral (F := Ideal) (φ₁ := .f32) (φ₂ := .f32) dot_S4x4096x2048_S2048x256_S4x4096x256_2_0_01_1_n_n none n W1

/-- The activation: half the value times the complementary error function of minus the value over √2. -/
def geluH (h : Vec Ideal S4x4096x256 .f32) : Vec Ideal S4x4096x256 .f32 :=
  mulf (F := Ideal) (φ := .f32) (mulf (broadcastInDim S4x4096x256 ![] Gen.bcast_S_S4x4096x256 (constant S_ .f32 0x3F000000#32)) h)
    (Host.erfc (mulf (Host.negf h) (broadcastInDim S4x4096x256 ![] Gen.bcast_S_S4x4096x256 (constant S_ .f32 0x3F3504F3#32))))

/-- The experts' logits: the second product, over the temperature `max 2 0.1`. -/
def logitH (g : Vec Ideal S4x4096x256 .f32) (W2 : Vec Ideal S256x64 .f32) : Vec Ideal S4x4096x64 .f32 :=
  Host.divf (F := Ideal) (φ := .f32)
    (Host.dotGeneral (F := Ideal) (φ₁ := .f32) (φ₂ := .f32) dot_S4x4096x256_S256x64_S4x4096x64_2_0_01_1_n_n none g W2)
    (broadcastInDim S4x4096x64 ![] Gen.bcast_S_S4x4096x64 (maximumf (constant S_ .f32 0x40000000#32) (constant S_ .f32 0x3DCCCCCD#32)))

/-- The exponentials of the logits less their row's greatest. -/
def expH (l : Vec Ideal S4x4096x64 .f32) : Vec Ideal S4x4096x64 .f32 :=
  Host.exp (F := Ideal) (φ := .f32) (subf l (broadcastInDim S4x4096x64 ![0, 1, 2] Gen.bcast_S4x4096x1_S4x4096x64_0_1_2
    (broadcastInDim S4x4096x1 ![0, 1] Gen.bcast_S4x4096_S4x4096x1_0_1
      (maximumf (broadcastInDim S4x4096 ![] Gen.bcast_S_S4x4096 (constant S_ .f32 0xFF800000#32))
        (Host.reduce FloatOps.maximumf l (constant S_ .f32 0xFF800000#32) Gen.reducesTo_S4x4096x64_S4x4096_d2 Gen.h_S_)))))

/-- The exponentials over their row's sum. -/
def softH (e : Vec Ideal S4x4096x64 .f32) : Vec Ideal S4x4096x64 .f32 :=
  Host.divf (F := Ideal) (φ := .f32) e (broadcastInDim S4x4096x64 ![0, 1, 2] Gen.bcast_S4x4096x1_S4x4096x64_0_1_2
    (broadcastInDim S4x4096x1 ![0, 1] Gen.bcast_S4x4096_S4x4096x1_0_1
      (Host.reduceAdd (F := Ideal) e (constant S_ .f32 0x00000000#32) Gen.reducesTo_S4x4096x64_S4x4096_d2 Gen.h_S_)))

/-- Every token's probabilities over the experts. -/
def probsH (x : Vec Ideal S4x4096x2048 .f32) (w b : Vec Ideal S2048 .f32) (W1 : Vec Ideal S2048x256 .f32)
    (W2 : Vec Ideal S256x64 .f32) : Vec Ideal S4x4096x64 .f32 :=
  softH (expH (logitH (geluH (hidH (normH x w b) W1)) W2))

/-- The eight greatest probabilities of each token, with their experts. -/
def topH (p : Vec Ideal S4x4096x64 .f32) : Vec Ideal S4x4096x8 .f32 × Vec Ideal S4x4096x8 .i32 :=
  Host.topK S4x4096x8 2 (FloatOps.cmpfTotal (F := Ideal) (φ := .f32) .gt) p Gen.sliceFits_S4x4096x64_S4x4096x8

/-- The combine weights: the eight probabilities over their sum plus 1e-8. -/
def weightsH (v : Vec Ideal S4x4096x8 .f32) : Vec Ideal S4x4096x8 .f32 :=
  Host.divf (F := Ideal) (φ := .f32) v (broadcastInDim S4x4096x8 ![0, 1, 2] Gen.bcast_S4x4096x1_S4x4096x8_0_1_2
    (addf (broadcastInDim S4x4096x1 ![0, 1] Gen.bcast_S4x4096_S4x4096x1_0_1
        (Host.reduceAdd (F := Ideal) v (constant S_ .f32 0x00000000#32) Gen.reducesTo_S4x4096x8_S4x4096_d2 Gen.h_S_))
      (broadcastInDim S4x4096x1 ![] Gen.bcast_S_S4x4096x1 (constant S_ .f32 0x322BCC77#32))))

/-- Which expert each of the eight choices is: 1 at the expert chosen, 0 elsewhere. -/
def oneHotH (i : Vec Ideal S4x4096x8 .i32) : Vec Ideal S4x4096x8x64 .f32 :=
  uitofp (F := Ideal) .f32 (cmpi .eq
    (broadcastInDim S4x4096x8x64 ![0, 1, 2, 3] Gen.bcast_S4x4096x8x1_S4x4096x8x64_0_1_2_3
      (broadcastInDim S4x4096x8x1 ![0, 1, 2] Gen.bcast_S4x4096x8_S4x4096x8x1_0_1_2 i))
    (broadcastInDim S4x4096x8x64 ![0, 1, 2, 3] Gen.bcast_S1x1x1x64_S4x4096x8x64_0_1_2_3 (iotaInDim S1x1x1x64 32 3)))

/-- The load-balancing term: 64 times the sum over the experts of the fraction of choices and the mean probability. -/
def auxH (p : Vec Ideal S4x4096x64 .f32) (i : Vec Ideal S4x4096x8 .i32) : Vec Ideal S_ .f32 :=
  mulf (F := Ideal) (φ := .f32) (constant S_ .f32 0x42800000#32)
    (Host.reduceAdd (F := Ideal)
      (mulf
        (Host.divf (Host.reduceAdd (F := Ideal) (oneHotH i) (constant S_ .f32 0x00000000#32) Gen.reducesTo_S4x4096x8x64_S64_d0_1_2 Gen.h_S_)
          (broadcastInDim S64 ![] Gen.bcast_S_S64 (constant S_ .f32 0x48000000#32)))
        (Host.divf (Host.reduceAdd (F := Ideal) p (constant S_ .f32 0x00000000#32) Gen.reducesTo_S4x4096x64_S64_d0_1 Gen.h_S_)
          (broadcastInDim S64 ![] Gen.bcast_S_S64 (constant S_ .f32 0x46800000#32))))
      (constant S_ .f32 0x00000000#32) Gen.reducesTo_S64_S_d0 Gen.h_S_)

/-- The nine greatest probabilities of each token. -/
def top9H (p : Vec Ideal S4x4096x64 .f32) : Vec Ideal Cert.Pre_plain_norm_no_tie.S4x4096x9 .f32 :=
  (Host.topK Cert.Pre_plain_norm_no_tie.S4x4096x9 2 (FloatOps.cmpfTotal (F := Ideal) (φ := .f32) .gt) p preFacts.sliceFits_S4x4096x64_S4x4096x9).1

/-- The precondition's three arrays: weight equal to one, bias equal to zero, each of the nine greatest probabilities
    below the one before it. -/
theorem pre_eq (x : Vec Ideal S4x4096x2048 .f32) (w b : Vec Ideal S2048 .f32) (W1 : Vec Ideal S2048x256 .f32)
    (W2 : Vec Ideal S256x64 .f32) :
    Cert.Pre_plain_norm_no_tie.fn (F := Ideal) x w b W1 W2 =
      (cmpf (F := Ideal) (φ := .f32) .oeq w (broadcastInDim S2048 ![] preFacts.bcast_S_S2048 (constant S_ .f32 0x3F800000#32)),
        cmpf (F := Ideal) (φ := .f32) .oeq b (broadcastInDim S2048 ![] preFacts.bcast_S_S2048 (constant S_ .f32 0x00000000#32)),
        cmpf (F := Ideal) (φ := .f32) .olt
          (extractStridedSlice S4x4096x8 ![0, 0, 1] (top9H (probsH x w b W1 W2)) preFacts.slices_S4x4096x9_S4x4096x8_0_0_1)
          (extractStridedSlice S4x4096x8 ![0, 0, 0] (top9H (probsH x w b W1 W2)) preFacts.slices_S4x4096x9_S4x4096x8_0_0_0)) := by
  rfl

section results

variable (m : (ℓ : Loc nD τ sig) → Buf (Elt Ideal) ℓ) (c : Dev nD)

/-- The probabilities the reference computes from the argument arrays in a memory. -/
abbrev probsOf : Vec Ideal S4x4096x64 .f32 :=
  probsH (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's first result is the probabilities. -/
theorem res0_eq : Value.res_out0 m c = shapeCast S16384x64 (probsOf m c) Gen.shapeCasts_S4x4096x64_S16384x64 := by
  rfl

/-- Its second is the chosen experts. -/
theorem res1_eq : Value.res_out1 m c = shapeCast S16384x8 (topH (probsOf m c)).2 Gen.shapeCasts_S4x4096x8_S16384x8 := by
  rfl

/-- Its third is the load-balancing term. -/
theorem res2_eq : Value.res_out2 m c = shapeCast S1x1 (auxH (probsOf m c) (topH (probsOf m c)).2) Gen.shapeCasts_S_S1x1 := by
  rfl

/-- Its fourth is the combine weights. -/
theorem res3_eq : Value.res_out3 m c = shapeCast S16384x8 (weightsH (topH (probsOf m c)).1) Gen.shapeCasts_S4x4096x8_S16384x8 := by
  rfl

end results

end Cert.Router

end
-- ==== Proof.HostRead.lean ====
/-
  The reference's probabilities, read at one token and one expert: where the normalization's weight is one and its bias
  zero, they are the token's probabilities `rowProbs` of its embedding.
-/
module

public import proofs.«01_k».proof.Proof.HostDefs
public import proofs.«01_k».proof.Proof.Row
public import Idealize.ShloMosaic.Lib.Pointwise

@[expose] public section

set_option maxRecDepth 16384

noncomputable section

open Idealize.ShloMosaic
open Cert.ReferenceIdeal

namespace Cert.Router

variable (x : Vec Ideal S4x4096x2048 .f32) (w b : Vec Ideal S2048 .f32) (W1 : Vec Ideal S2048x256 .f32)
  (W2 : Vec Ideal S256x64 .f32)

/-- The embedding of token `j` of sequence `i`. -/
abbrev tok (i : Fin 4) (j : Fin 4096) : Fin 2048 → EReal := fun k => x (ix3 i j k)

/-- The variance's guard holds and its divisor is 2048. -/
theorem guard_pos : Ideal.ofBits FTy.f32 1157627904#32 - FloatOps.sitofp (F := Ideal) FTy.f32 0#32 = Ideal.ofBits FTy.f32 1157627904#32 := by
  show Ideal.ofBits FTy.f32 1157627904#32 - (((0#32 : BitVec 32).toInt : ℝ) : EReal) = _
  simp

theorem c2048_pos : 0 < Ideal.ofBits FTy.f32 1157627904#32 := by
  rw [c2048]
  exact EReal.coe_pos.2 (by norm_num)

/-- The normalized array at an entry, where the weight is one and the bias zero. -/
theorem normH_apply (hw : ∀ k, w (ix1 k) = 1) (hb : ∀ k, b (ix1 k) = 0) (i : Fin 4) (j : Fin 4096) (k : Fin 2048) :
    normH x w b (ix3 i j k) = rowNorm (tok x i j) k := by
  pointwise [normH, varH, devH, meanH]
  rw [hw, hb, guard_pos, if_pos c2048_pos, add_zero, mul_one]
  rfl

/-- The activated hidden layer at an entry. -/
theorem geluH_apply (n : Vec Ideal S4x4096x2048 .f32) (i : Fin 4) (j : Fin 4096) (e : Fin 256) :
    geluH (hidH n W1) (ix3 i j e) = gelu (∑ k, n (ix3 i j k) * W1 (ix2 k e)) := by
  pointwise [geluH, hidH]
  exact gelu_erfc _

/-- The logits at an entry. -/
theorem logitH_apply (g : Vec Ideal S4x4096x256 .f32) (i : Fin 4) (j : Fin 4096) (n : Fin 64) :
    logitH g W2 (ix3 i j n) = (∑ e, g (ix3 i j e) * W2 (ix2 e n)) * Ideal.ofBits FTy.f32 1056964608#32 := by
  pointwise [logitH]
  exact div_temp _

/-- The softmax at an entry. -/
theorem softH_apply (l : Vec Ideal S4x4096x64 .f32) (i : Fin 4) (j : Fin 4096) (n : Fin 64) :
    softH (expH l) (ix3 i j n) = softmax (fun n => l (ix3 i j n)) n := by
  pointwise [softH, expH]
  rw [cBot, max_eq_right bot_le]
  simp only [softmax, rowExp, rowMax, cBot]

/-- The probabilities at an entry. -/
theorem probsH_apply (hw : ∀ k, w (ix1 k) = 1) (hb : ∀ k, b (ix1 k) = 0) (i : Fin 4) (j : Fin 4096) (n : Fin 64) :
    probsH x w b W1 W2 (ix3 i j n)
      = rowProbs (tok x i j) (fun k e => W1 (ix2 k e)) (fun e n => W2 (ix2 e n)) n := by
  unfold probsH
  rw [softH_apply]
  simp only [logitH_apply, geluH_apply, normH_apply x w b hw hb]
  rfl

/-- Every row of the reference's probabilities, whatever the weight and the bias, is a softmax row: everywhere −∞ or
    nowhere below zero. -/
theorem probsH_bot_or_nonneg (i : Fin 4) (j : Fin 4096) :
    (∀ n, probsH x w b W1 W2 (ix3 i j n) = ⊥) ∨ ∀ n, 0 ≤ probsH x w b W1 W2 (ix3 i j n) := by
  unfold probsH
  simp only [softH_apply]
  exact softmax_bot_or_nonneg _

end Cert.Router

end
-- ==== Proof.HostTop.lean ====
/-
  The reference's choice of experts, read at one token: the `k`-th greatest probability and its expert are those at
  position `k` of one order of the token's experts, the same order whether eight or nine are taken; and the
  precondition says that this order falls strictly over its first nine.
-/
module

public import proofs.«01_k».proof.Proof.HostRead
public import proofs.«01_k».proof.Proof.Rounds
public import Idealize.ShloMosaic.Lib.SortFacts

@[expose] public section

set_option maxRecDepth 16384

noncomputable section

open Idealize.ShloMosaic
open Cert.ReferenceIdeal

namespace Cert.Router

/-- Whether one entry sorts before another: whether it is the greater. -/
def before (q : Fin 64 → EReal) (a b : Fin 64) : Bool :=
  FloatOps.cmpfTotal (F := Ideal) (φ := .f32) .gt (q a) (q b) == 1#1

theorem before_iff (q : Fin 64 → EReal) (a b : Fin 64) : before q a b = true ↔ q b < q a := by
  unfold before
  rw [Ideal.cmpfTotal_def]
  show (BitVec.ofBool (decide (q a > q b)) == 1#1) = true ↔ _
  by_cases h : q b < q a <;> simp [h]

theorem before_false_iff (q : Fin 64 → EReal) (a b : Fin 64) : before q a b = false ↔ q a ≤ q b := by
  rw [← not_lt, ← before_iff q a b, Bool.not_eq_true]

/-- The order of the experts from the greatest entry down. -/
def ord (q : Fin 64 → EReal) : Fin 64 ≃ Fin 64 :=
  Equiv.ofBijective (sortedFrom (before q)) ⟨sortedFrom_injective _, sortedFrom_surjective _⟩

theorem ord_apply (q : Fin 64 → EReal) (a : Fin 64) : ord q a = sortedFrom (before q) a := by
  unfold ord
  exact Equiv.ofBijective_apply ..

/-- Along it the entries do not rise. -/
theorem ord_anti (q : Fin 64 → EReal) (i j : Fin 64) (h : i ≤ j) : q (ord q j) ≤ q (ord q i) := by
  rcases h.eq_or_lt with e | e
  · rw [e]
  · rw [ord_apply, ord_apply]
    refine (before_false_iff q _ _).1 (sortedFrom_noInversion (before q) (before q) (fun a b hab => ?_)
      (fun _ _ hab => hab) (fun a b c hab hbc => ?_) i j e)
    · exact (before_false_iff q _ _).2 ((before_iff q _ _).1 hab).le
    · exact (before_false_iff q _ _).2 (((before_false_iff q _ _).1 hab).trans ((before_false_iff q _ _).1 hbc))

/-- Position `n` of the last axis, in place of position `a`. -/
theorem along_ix3 (i : Fin 4) (j : Fin 4096) (a n : Fin 64) :
    Shape.Idx.along (s := S4x4096x64) (ix3 i j a) 2 n = ix3 i j n := by
  funext d
  fin_cases d <;> rfl

variable (p : Vec Ideal S4x4096x64 .f32)

/-- A token's row of an array over tokens and experts. -/
abbrev rowOf (i : Fin 4) (j : Fin 4096) : Fin 64 → EReal := fun n => p (ix3 i j n)

/-- The array sorted along the experts, with the experts' words beside it. -/
abbrev sorted : Vec Ideal S4x4096x64 .f32 × IVec S4x4096x64 32 :=
  Host.sort2 S4x4096x64 2 (fun l r => FloatOps.cmpfTotal (F := Ideal) (φ := .f32) .gt l.1 r.1) p (fun i => BitVec.ofNat 32 (i 2).val)

/-- The position along the experts an entry of the sorted array came from. -/
def source (J : S4x4096x64.Idx) : Fin 64 :=
  sortedFrom (fun k k' => FloatOps.cmpfTotal (F := Ideal) (φ := .f32) .gt (p (Shape.Idx.along J 2 k)) (p (Shape.Idx.along J 2 k')) == 1#1) (J 2)

theorem sorted_fst (J : S4x4096x64.Idx) : (sorted p).1 J = p (Shape.Idx.along J 2 (source p J)) := by
  unfold sorted Host.sort2
  rw [dif_pos (by decide)]
  rfl

theorem sorted_snd (J : S4x4096x64.Idx) : (sorted p).2 J = BitVec.ofNat 32 (Shape.Idx.along J 2 (source p J) 2).val := by
  unfold sorted Host.sort2
  rw [dif_pos (by decide)]
  rfl

/-- It is the order's position. -/
theorem source_eq (i : Fin 4) (j : Fin 4096) (a : Fin 64) : source p (ix3 i j a) = ord (rowOf p i j) a := by
  have e : (fun k k' : Fin 64 => FloatOps.cmpfTotal (F := Ideal) (φ := .f32) .gt (p (Shape.Idx.along (s := S4x4096x64) (ix3 i j a) 2 k))
        (p (Shape.Idx.along (s := S4x4096x64) (ix3 i j a) 2 k')) == 1#1) = before (rowOf p i j) := by
    funext k k'
    rw [along_ix3, along_ix3]
    rfl
  rw [ord_apply]
  unfold source
  rw [e]
  rfl

/-- An entry of the sorted array. -/
theorem sorted_val (i : Fin 4) (j : Fin 4096) (a : Fin 64) :
    (sorted p).1 (ix3 i j a) = p (ix3 i j (ord (rowOf p i j) a)) := by
  rw [sorted_fst, source_eq, along_ix3]

/-- Its expert. -/
theorem sorted_idx (i : Fin 4) (j : Fin 4096) (a : Fin 64) :
    (sorted p).2 (ix3 i j a) = BitVec.ofNat 32 (ord (rowOf p i j) a).val := by
  rw [sorted_snd, source_eq, along_ix3]
  rfl

/-- The `k`-th of the eight greatest probabilities. -/
theorem topH_val (i : Fin 4) (j : Fin 4096) (k : Fin 8) :
    (topH p).1 (ix3 i j k) = p (ix3 i j (ord (rowOf p i j) (pos k))) := by
  rw [← sorted_val p]
  unfold topH Host.topK
  pointwise []

/-- Its expert. -/
theorem topH_idx (i : Fin 4) (j : Fin 4096) (k : Fin 8) :
    (topH p).2 (ix3 i j k) = BitVec.ofNat 32 (ord (rowOf p i j) (pos k)).val := by
  rw [← sorted_idx p]
  unfold topH Host.topK
  pointwise []

/-- The `k`-th of the nine greatest probabilities. -/
theorem top9H_val (i : Fin 4) (j : Fin 4096) (k : Fin 9) :
    top9H p (ix3 i j k) = p (ix3 i j (ord (rowOf p i j) ⟨k.val, by omega⟩)) := by
  rw [← sorted_val p]
  unfold top9H Host.topK
  pointwise []

/-- A row ranked by its order, where it is a softmax row and its nine greatest entries fall strictly. -/
theorem ranked_of_strict (q : Fin 64 → EReal) (h : (∀ n, q n = ⊥) ∨ ∀ n, 0 ≤ q n)
    (hs : ∀ k : Fin 8, q (ord q ⟨k.val + 1, by omega⟩) < q (ord q (pos k))) : Ranked q (ord q) where
  nonneg := by
    rcases h with h | h
    · have := hs 0
      rw [h, h] at this
      exact absurd this (lt_irrefl _)
    · exact h
  anti := ord_anti q
  strict := hs

end Cert.Router

end
-- ==== Proof.HostSpec.lean ====
/-
  The reference's four results, read at an index of the flat arrays over 16384 tokens: the probabilities, the chosen
  experts, the load-balancing term and the combine weights, in terms of the tokens' rows of probabilities and their orders.
-/
module

public import proofs.«01_k».proof.Proof.HostTop

@[expose] public section

set_option maxRecDepth 16384

noncomputable section

open Idealize.ShloMosaic
open Cert.ReferenceIdeal

namespace Cert.Router

/-! ## The results of a table of probability rows -/

/-- The `k`-th chosen expert of a row, as a 32-bit word. -/
def choice (q : Fin 64 → EReal) (k : Fin 8) : BitVec 32 := BitVec.ofNat 32 (ord q (pos k)).val

/-- The `k`-th combine weight of a row. -/
def weight (q : Fin 64 → EReal) (k : Fin 8) : EReal :=
  Ideal.div (q (ord q (pos k))) ((∑ k' : Fin 8, q (ord q (pos k'))) + Ideal.ofBits FTy.f32 841731191#32)

/-- Whether an expert is among the eight chosen, 1 or 0. -/
def chosen (q : Fin 64 → EReal) (n : Fin 64) : EReal := if ((ord q).symm n).val < 8 then 1 else 0

/-- The load-balancing term of all tokens' rows. -/
def balance (P : Fin 16384 → Fin 64 → EReal) : EReal :=
  Ideal.ofBits FTy.f32 1115684864#32 * ∑ n : Fin 64,
    Ideal.div (∑ r, chosen (P r) n) (Ideal.ofBits FTy.f32 1207959552#32)
      * Ideal.div (∑ r, P r n) (Ideal.ofBits FTy.f32 1182793728#32)

/-! ## Tokens of the flat arrays -/

/-- The sequence a flat token lies in. -/
abbrev seqOf (r : Fin 16384) : Fin 4 := ⟨r.val / 4096, by omega⟩
/-- Its position in the sequence. -/
abbrev inSeq (r : Fin 16384) : Fin 4096 := ⟨r.val % 4096, by omega⟩

/-- A sum over the flat tokens is a sum over sequences and positions. -/
theorem sum_tokens (f : Fin 4 → Fin 4096 → EReal) : ∑ r : Fin 16384, f (seqOf r) (inSeq r) = ∑ i, ∑ j, f i j := by
  rw [← Fintype.sum_prod_type']
  exact Fintype.sum_equiv (finProdFinEquiv (m := 4) (n := 4096)).symm _ _ fun r => rfl

/-! ## Sums over several leading axes -/

/-- A sum over the first two of three axes. -/
theorem reduce_r3 (x : Vec Ideal S4x4096x64 .f32) (n : Fin 64) :
    Ideal.hostReduceAdd Gen.reducesTo_S4x4096x64_S64_d0_1 x 0 (ix1 n) = ∑ i, ∑ j, x (ix3 i j n) := by
  unfold Ideal.hostReduceAdd
  rw [zero_add, Finset.sum_filter_eq_sum_of_fiber _ (fun k : Fin 4 × Fin 4096 => (ix3 k.1 k.2 n : S4x4096x64.Idx)), Fintype.sum_prod_type]
  · rintro ⟨a, b⟩ ⟨a', b'⟩ e
    exact Prod.ext (congrFun e 0) (congrFun e 1)
  · intro i
    constructor
    · intro e
      refine ⟨(i 0, i 1), ?_⟩
      have e2 : i 2 = n := congrFun e 0
      rw [← e2]
      exact (eq_ix3 i).symm
    · rintro ⟨⟨a, b⟩, rfl⟩
      funext d
      fin_cases d
      rfl

/-- A sum over the first three of four axes. -/
theorem reduce_r4 (x : Vec Ideal S4x4096x8x64 .f32) (n : Fin 64) :
    Ideal.hostReduceAdd Gen.reducesTo_S4x4096x8x64_S64_d0_1_2 x 0 (ix1 n) = ∑ i, ∑ j, ∑ k, x (ix4 i j k n) := by
  unfold Ideal.hostReduceAdd
  rw [zero_add, Finset.sum_filter_eq_sum_of_fiber _ (fun k : Fin 4 × Fin 4096 × Fin 8 => (ix4 k.1 k.2.1 k.2.2 n : S4x4096x8x64.Idx)),
    Fintype.sum_prod_type]
  · simp only [Fintype.sum_prod_type]
  · rintro ⟨a, b, c⟩ ⟨a', b', c'⟩ e
    exact Prod.ext (congrFun e 0) (Prod.ext (congrFun e 1) (congrFun e 2))
  · intro i
    constructor
    · intro e
      refine ⟨(i 0, i 1, i 2), ?_⟩
      have e3 : i 3 = n := congrFun e 0
      rw [← e3]
      exact (eq_ix4 i).symm
    · rintro ⟨⟨a, b, c⟩, rfl⟩
      funext d
      fin_cases d
      rfl

/-! ## The four results -/

/-- The one-hot entry of two experts' words. -/
theorem oneHot_word (a l : Fin 64) :
    FloatOps.uitofp (F := Ideal) FTy.f32 (IntOp.cmpi CmpIPredicate.eq (BitVec.ofNat 32 a.val) (BitVec.ofNat 32 l.val))
      = if a = l then (1 : EReal) else 0 := by
  have h : (BitVec.ofNat 32 a.val = BitVec.ofNat 32 l.val) ↔ a = l := by
    refine ⟨fun e => ?_, fun e => by rw [e]⟩
    have e' := congrArg BitVec.toNat e
    rw [BitVec.toNat_ofNat, BitVec.toNat_ofNat] at e'
    exact Fin.ext (by omega)
  show (((BitVec.ofBool (BitVec.ofNat 32 a.val == BitVec.ofNat 32 l.val)).toNat : ℝ) : EReal) = _
  by_cases e : a = l
  · subst e
    simp
  · have hb : (BitVec.ofNat 32 a.val == BitVec.ofNat 32 l.val) = false := by
      simpa using fun e' => e (h.1 e')
    rw [hb, if_neg e]
    simp

variable (p : Vec Ideal S4x4096x64 .f32)

/-- A flat token's row of probabilities. -/
abbrev flatRow (r : Fin 16384) : Fin 64 → EReal := rowOf p (seqOf r) (inSeq r)

/-- How often an expert is chosen by one token, by the one-hot array. -/
theorem oneHotH_sum (i : Fin 4) (j : Fin 4096) (n : Fin 64) :
    ∑ k, oneHotH (topH p).2 (ix4 i j k n) = chosen (rowOf p i j) n := by
  unfold chosen
  rw [← sum_choice]
  refine Finset.sum_congr rfl fun k _ => ?_
  rw [← oneHot_word, ← topH_idx]
  pointwise [oneHotH]

/-- The first result. -/
theorem flat_probs (r : Fin 16384) (n : Fin 64) :
    (shapeCast S16384x64 p Gen.shapeCasts_S4x4096x64_S16384x64 : Vec Ideal S16384x64 .f32) (ix2 r n) = flatRow p r n := by
  pointwise []

/-- The second result. -/
theorem flat_choice (r : Fin 16384) (k : Fin 8) :
    (shapeCast S16384x8 (topH p).2 Gen.shapeCasts_S4x4096x8_S16384x8 : Vec Ideal S16384x8 .i32) (ix2 r k) = choice (flatRow p r) k := by
  unfold choice
  rw [← topH_idx]
  pointwise []

/-- The fourth result. -/
theorem flat_weight (r : Fin 16384) (k : Fin 8) :
    (shapeCast S16384x8 (weightsH (topH p).1) Gen.shapeCasts_S4x4096x8_S16384x8 : Vec Ideal S16384x8 .f32) (ix2 r k)
      = weight (flatRow p r) k := by
  have e : ∀ v : Vec Ideal S4x4096x8 .f32,
      (shapeCast S16384x8 (weightsH v) Gen.shapeCasts_S4x4096x8_S16384x8 : Vec Ideal S16384x8 .f32) (ix2 r k)
        = Ideal.div (v (ix3 (seqOf r) (inSeq r) k)) ((∑ k', v (ix3 (seqOf r) (inSeq r) k')) + Ideal.ofBits FTy.f32 841731191#32) := by
    intro v
    pointwise [weightsH]
  rw [e]
  simp only [topH_val]
  rfl

/-- The third result. -/
theorem flat_balance (j : S1x1.Idx) :
    (shapeCast S1x1 (auxH p (topH p).2) Gen.shapeCasts_S_S1x1 : Vec Ideal S1x1 .f32) j = balance (flatRow p) := by
  have e : ∀ w : Vec Ideal S4x4096x8 .i32, (shapeCast S1x1 (auxH p w) Gen.shapeCasts_S_S1x1 : Vec Ideal S1x1 .f32) j
      = Ideal.ofBits FTy.f32 1115684864#32 * ∑ n : Fin 64,
          Ideal.div (Ideal.hostReduceAdd Gen.reducesTo_S4x4096x8x64_S64_d0_1_2 (oneHotH w) 0 (ix1 n)) (Ideal.ofBits FTy.f32 1207959552#32)
            * Ideal.div (Ideal.hostReduceAdd Gen.reducesTo_S4x4096x64_S64_d0_1 p 0 (ix1 n)) (Ideal.ofBits FTy.f32 1182793728#32) := by
    intro w
    pointwise [auxH]
  rw [e]
  unfold balance
  simp only [reduce_r3, reduce_r4]
  refine congrArg _ (Finset.sum_congr rfl fun n _ => ?_)
  have e1 := sum_tokens fun i j => chosen (rowOf p i j) n
  have e2 := sum_tokens fun i j => p (ix3 i j n)
  have e3 : (∑ i, ∑ j, ∑ k, oneHotH (topH p).2 (ix4 i j k n)) = ∑ i, ∑ j, chosen (rowOf p i j) n :=
    Finset.sum_congr rfl fun i _ => Finset.sum_congr rfl fun j _ => oneHotH_sum p i j n
  rw [e3, ← e1, ← e2]

end Cert.Router

end
-- ==== Proof.KernelState.lean ====
/-
  What the kernel's buffers hold after each grid point, in terms of the point's input blocks, and what the input blocks
  hold in terms of the launch's arguments.
-/
module

public import proofs.«01_k».proof.Proof.KernelOut
public import proofs.«01_k».proof.Proof.HostSpec
public import proofs.«01_k».proof.Proof.Gen.KernelIdeal.Value
public import Idealize.ShloMosaic.Lib.Pipeline.ValueKit.Point

@[expose] public section

noncomputable section

open Idealize.ShloMosaic Idealize.ShloMosaic.TcCoe Idealize.SL.Sem
open Cert.KernelIdeal Cert.KernelIdeal.Gen Cert.KernelIdeal.Value

namespace Cert.Router

variable (m : (ℓ : Loc nD τ sig) → Buf (Elt Ideal) ℓ) (c : Dev nD)

/-! ## The input blocks -/

/-- The flat number of the `j`-th token of block `t`. -/
abbrev rowAt (t : Fin cfg0.N) (j : Fin 2048) : Fin 16384 :=
  ⟨t.val * 2048 + j.val, by have h := lt_of_lt_of_eq t.isLt (show cfg0.N = 8 from N_0); omega⟩

/-- Where the three input windows stand at point `t`. -/
theorem idx_in : ∀ t : Fin cfg0.N, win0_0.index t = ![t.val, 0] ∧ win0_1.index t = ![0, 0] ∧ win0_2.index t = ![0, 0] :=
  (by decide +kernel : ∀ t : Fin grid0.N, _)

/-- The first input block at point `t` holds the tokens `2048 t …` of the argument. -/
theorem tokens_block (t : Fin cfg0.N) (j k : Fin 2048) :
    (iblk m c 0 t : Vec Ideal S2048x2048 .f32) (ix2 j k)
      = m ((c : Thread nD τ).loc main_arg0) (ix3 (seqOf (rowAt t j)) (inSeq (rowAt t j)) k) := by
  blk_ext! [iblk, V, idx_in t]

/-- The second input block is the up projection. -/
theorem up_block (t : Fin cfg0.N) : (iblk m c 1 t : Vec Ideal S2048x256 .f32) = m ((c : Thread nD τ).loc main_arg3) := by
  blk_ext! [iblk, V, idx_in t]

/-- The third input block is the down projection. -/
theorem down_block (t : Fin cfg0.N) : (iblk m c 2 t : Vec Ideal S256x64 .f32) = m ((c : Thread nD τ).loc main_arg4) := by
  blk_ext! [iblk, V, idx_in t]

/-! ## The state after a point -/

/-- The probabilities of block `t`. -/
def probsAt (t : Fin cfg0.N) : FVec Ideal S2048x64 .f32 := blockProbs (iblk m c 0 t) (iblk m c 1 t) (iblk m c 2 t)

/-- A point leaves its block's probabilities, chosen experts and weights in the three output buffers. -/
theorem step_outputs (t : Fin cfg0.N) (acc) :
    (stAt0 m c t.val t.isLt acc).1 = probsAt m c t
      ∧ (stAt0 m c t.val t.isLt acc).2.1 = choiceBlk (probsAt m c t)
      ∧ (stAt0 m c t.val t.isLt acc).2.2.1 = weightBlk (probsAt m c t) := by
  by_cases h0 : t.val % 8 = 0
  · have h1 : ¬t.val % 8 = 7 := by omega
    rw [stAt0_A m c t acc h0 h1]
    dsimp only
    exact ⟨(first_point ..).1, (first_point ..).2.1, (first_point ..).2.2.1⟩
  by_cases h1 : t.val % 8 = 7
  · rw [stAt0_C m c t acc h0 h1]
    dsimp only
    exact ⟨(last_point ..).1, (last_point ..).2.1, (last_point ..).2.2.1⟩
  · rw [stAt0_B m c t acc h0 h1]
    dsimp only
    exact ⟨(middle_point ..).1, (middle_point ..).2.1, (middle_point ..).2.2.1⟩

/-- The first point leaves the running sums of its block from zero. -/
theorem step_sums_first (t : Fin cfg0.N) (acc) (h0 : t.val % 8 = 0) :
    (stAt0 m c t.val t.isLt acc).2.2.2.2 = sumsBlk (probsAt m c t) (k0_pay5 (F := Ideal)) := by
  rw [stAt0_A m c t acc h0 (by omega)]
  dsimp only
  exact (first_point ..).2.2.2

/-- A later point adds its block to the running sums. -/
theorem step_sums (t : Fin cfg0.N) (acc) (h0 : ¬t.val % 8 = 0) :
    (stAt0 m c t.val t.isLt acc).2.2.2.2 = sumsBlk (probsAt m c t) acc.2.2.2.2 := by
  by_cases h1 : t.val % 8 = 7
  · rw [stAt0_C m c t acc h0 h1]
    dsimp only
    exact (last_point ..).2.2.2.1
  · rw [stAt0_B m c t acc h0 h1]
    dsimp only
    exact (middle_point ..).2.2.2

/-- The last point leaves the balance term of the running sums it leaves. -/
theorem step_balance (t : Fin cfg0.N) (acc) (h1 : t.val % 8 = 7) :
    (stAt0 m c t.val t.isLt acc).2.2.2.1 = k0_pay4 (F := Ideal) (stAt0 m c t.val t.isLt acc).2.2.2.2 := by
  rw [step_sums m c t acc (by omega), stAt0_C m c t acc (by omega) h1]
  dsimp only
  exact (last_point ..).2.2.2.2

/-- The running sums after point `n`. -/
def sumsAfter (n : ℕ) (h : n < cfg0.N) : Vec Ideal S2x64 .f32 := (outsAt0 m c n h).2.2.2.2

theorem sumsAfter_zero (h : 0 < cfg0.N) : sumsAfter m c 0 h = sumsBlk (probsAt m c ⟨0, h⟩) (k0_pay5 (F := Ideal)) := by
  unfold sumsAfter
  rw [outsAt0_zero]
  exact step_sums_first m c ⟨0, h⟩ _ rfl

theorem sumsAfter_succ (n : ℕ) (h : n + 1 < cfg0.N) :
    sumsAfter m c (n + 1) h = sumsBlk (probsAt m c ⟨n + 1, h⟩) (sumsAfter m c n (Nat.lt_of_succ_lt h)) := by
  have hN : n + 1 < 8 := lt_of_lt_of_eq h (show cfg0.N = 8 from N_0)
  unfold sumsAfter
  rw [outsAt0_succ]
  exact step_sums m c ⟨n + 1, h⟩ _ (show ¬(n + 1) % 8 = 0 by omega)

/-- The buffers after point `n`: one step from what the point before left. -/
theorem outs_step (n : ℕ) (h : n < cfg0.N) : ∃ acc, outsAt0 m c n h = stAt0 m c n h acc := by
  cases n with
  | zero => exact ⟨_, outsAt0_zero m c h⟩
  | succ n => exact ⟨_, outsAt0_succ m c n h⟩

end Cert.Router
-- ==== Proof.BlockSpec.lean ====
/-
  The kernel's block results at an entry: the chosen experts, the weights and the updated running sums, in terms of the
  tokens' rows of probabilities and their orders.
-/
module

public import proofs.«01_k».proof.Proof.BlockRounds
public import proofs.«01_k».proof.Proof.HostSpec

@[expose] public section

set_option maxRecDepth 16384

noncomputable section

open Idealize.ShloMosaic
open Cert.KernelIdeal Cert.KernelIdeal.Gen

namespace Cert.Router

/-- A token's row of a block. -/
abbrev blkRow (p : FVec Ideal S2048x64 .f32) (r : Fin 2048) : Fin 64 → EReal := fun n => p (ix2 r n)

/-- Eight columns side by side, at an entry. -/
theorem cols_apply (f : ℕ → FVec Ideal S2048x1 .f32) (r : Fin 2048) (k : Fin 8) :
    concatenate S2048x8 1 [⟨S2048x1, f 0⟩, ⟨S2048x1, f 1⟩, ⟨S2048x1, f 2⟩, ⟨S2048x1, f 3⟩, ⟨S2048x1, f 4⟩,
      ⟨S2048x1, f 5⟩, ⟨S2048x1, f 6⟩, ⟨S2048x1, f 7⟩]
      concatenates_S2048x1_S2048x1_S2048x1_S2048x1_S2048x1_S2048x1_S2048x1_S2048x1_S2048x8_d1 (ix2 r k)
      = f k.val (ix2 r 0) := by
  pointwise []
  fin_vals k with hk <;> simp only [hk, Nat.reduceSub, Nat.reduceLT, ↓reduceDIte, ↓reduceIte] <;> rfl

/-- The block's `k`-th chosen expert of a token, when the token's row has a strict order of its nine largest. -/
theorem choiceBlk_apply (p : FVec Ideal S2048x64 .f32) (r : Fin 2048) (k : Fin 8)
    (h : Ranked (blkRow p r) (ord (blkRow p r))) : choiceBlk p (ix2 r k) = choice (blkRow p r) k := by
  have e : choiceBlk p (ix2 r k) = Ideal.fptosi 32 (idxCol (curBlk p k.val) (ix2 r 0)) :=
    congrArg (Ideal.fptosi 32) (cols_apply (fun k => idxCol (curBlk p k)) r k)
  rw [e, idxCol_apply, funext (curBlk_apply p r k.val), idxRow_curRow h k, fptosi_pos]
  rfl

/-- Rows of eight divided by their sums, at an entry. -/
theorem normalize_apply (v : FVec Ideal S2048x8 .f32) (r : Fin 2048) (k : Fin 8) :
    divf v (broadcastTo S2048x8 (addf (shapeCast S2048x1
      (multiReduction .add [1] S2048 v 0x00000000#32 reduces_S2048x8_S2048 (.inl rfl) rfl) shapeCasts_S2048_S2048x1)
      (broadcast S2048x1 (Scalar.ofBits .f32 0x322BCC77#32))) broadcasts_S2048x1_S2048x8) (ix2 r k)
      = Ideal.div (v (ix2 r k)) ((∑ k', v (ix2 r k')) + Ideal.ofBits FTy.f32 841731191#32) := by
  pointwise []

/-- The block's `k`-th weight of a token, under the same condition. -/
theorem weightBlk_apply (p : FVec Ideal S2048x64 .f32) (r : Fin 2048) (k : Fin 8)
    (h : Ranked (blkRow p r) (ord (blkRow p r))) : weightBlk p (ix2 r k) = weight (blkRow p r) k := by
  have c : ∀ k : Fin 8, maxCol (curBlk p k.val) (ix2 r 0) = p (ix2 r (ord (blkRow p r) (pos k))) := fun k => by
    rw [maxCol_apply, funext (curBlk_apply p r k.val), rowMax_curRow h k]
  refine (normalize_apply _ r k).trans ?_
  simp only [cols_apply (fun k => maxCol (curBlk p k)) r, c]
  rfl

/-- The update of the running sums, first row: the column sums of the probabilities are added. -/
theorem pay3_probs (p v : FVec Ideal S2048x64 .f32) (b : IVec S2048x64 1) (acc : Vec Ideal S2x64 .f32) (n : Fin 64) :
    k0_pay3 p v b acc (ix2 0 n) = acc (ix2 0 n) + ∑ r, p (ix2 r n) := by
  pointwise [k0_pay3]

/-- A comparison's bit, widened and read as a number. -/
theorem bit_value (P : Prop) [Decidable P] :
    FloatOps.sitofp (F := Ideal) .f32 (BitVec.setWidth 32 (BitVec.ofBool (decide P))) = if P then (1 : EReal) else 0 := by
  by_cases h : P
  · rw [if_pos h, decide_eq_true h]
    show (((1#32).toInt : ℝ) : EReal) = 1
    simp
  · rw [if_neg h, decide_eq_false h]
    show (((0#32).toInt : ℝ) : EReal) = 0
    simp

/-- The update of the running sums, second row: the number of tokens whose last block is negative is added. -/
theorem pay3_counts (p v : FVec Ideal S2048x64 .f32) (b : IVec S2048x64 1) (acc : Vec Ideal S2x64 .f32) (n : Fin 64) :
    k0_pay3 p v b acc (ix2 1 n) = acc (ix2 1 n)
      + ∑ r, if select b (broadcast S2048x64 (Scalar.ofBits .f32 0xBF800000#32)) v (ix2 r n) < (0 : EReal) then (1 : EReal) else 0 := by
  simp only [← bit_value]
  pointwise [k0_pay3]

/-- Running sums after a block, first row: the probabilities. -/
theorem sumsBlk_probs (p : FVec Ideal S2048x64 .f32) (acc : Vec Ideal S2x64 .f32) (n : Fin 64) :
    sumsBlk p acc (ix2 0 n) = acc (ix2 0 n) + ∑ r, p (ix2 r n) :=
  pay3_probs ..

/-- Running sums after a block, second row: how often each expert was chosen. -/
theorem sumsBlk_chosen (p : FVec Ideal S2048x64 .f32) (acc : Vec Ideal S2x64 .f32) (n : Fin 64)
    (h : ∀ r, Ranked (blkRow p r) (ord (blkRow p r))) :
    sumsBlk p acc (ix2 1 n) = acc (ix2 1 n) + ∑ r, chosen (blkRow p r) n := by
  refine (pay3_counts ..).trans (congrArg (acc (ix2 1 n) + ·) (Finset.sum_congr rfl fun r _ => ?_))
  have e : curBlk p 8 (ix2 r n) = curRow (blkRow p r) 8 n := curBlk_apply p r 8 n
  unfold chosen
  refine if_congr ?_ rfl rfl
  rw [← curRow_neg_iff (h r) n, ← e]
  rfl

end Cert.Router
-- ==== Proof.KernelArrays.lean ====
/-
  What the kernel's four result arrays hold at an entry, in terms of the tokens' rows of probabilities.
-/
module

public import proofs.«01_k».proof.Proof.KernelState
public import proofs.«01_k».proof.Proof.BlockSpec

@[expose] public section

set_option maxRecDepth 16384

noncomputable section

open Idealize.ShloMosaic Idealize.ShloMosaic.TcCoe Idealize.SL.Sem
open Cert.KernelIdeal Cert.KernelIdeal.Gen Cert.KernelIdeal.Value

namespace Cert.Router

variable (m : (ℓ : Loc nD τ sig) → Buf (Elt Ideal) ℓ) (c : Dev nD)

/-- The probabilities of a flat token, from the launch's arguments. -/
def tokenProbs (r : Fin 16384) : Fin 64 → EReal :=
  rowProbs (tok (m ((c : Thread nD τ).loc main_arg0)) (seqOf r) (inSeq r))
    (fun k e => m ((c : Thread nD τ).loc main_arg3) (ix2 k e)) (fun e n => m ((c : Thread nD τ).loc main_arg4) (ix2 e n))

/-- A row of block `t` is its token's row. -/
theorem probsAt_row (t : Fin cfg0.N) (j : Fin 2048) : blkRow (probsAt m c t) j = tokenProbs m c (rowAt t j) := by
  funext n
  unfold probsAt
  refine (blockProbs_apply _ _ _ j n).trans ?_
  rw [up_block, down_block, funext fun k => tokens_block m c t j k]
  rfl

/-! ## The three arrays written block by block -/

/-- The point that computes a flat token, and the token's place in its block. -/
abbrev ptOf (r : Fin 16384) : Fin cfg0.N := ⟨r.val / 2048, lt_of_lt_of_eq (by omega) (show 8 = cfg0.N from N_0.symm)⟩
abbrev inBlk (r : Fin 16384) : Fin 2048 := ⟨r.val % 2048, by omega⟩

theorem rowAt_ptOf (r : Fin 16384) : rowAt (ptOf r) (inBlk r) = r := Fin.ext (by show r.val / 2048 * 2048 + r.val % 2048 = r.val; omega)

/-- The first result: the tokens' probabilities. -/
theorem probs_array (r : Fin 16384) (n : Fin 64) : G3 m c (ix2 r n) = tokenProbs m c r n := by
  have hp : pt3Of (ix2 r n) = (ptOf r).val := by
    show 1 * (r.val / 2048 - 0) + 1 * (n.val / 64 - 0) = r.val / 2048
    omega
  have hl : loc3Of (ix2 r n) = ix2 (inBlk r) n := by
    funext a; apply Fin.ext
    match a with
    | ⟨0, _⟩ => rfl
    | ⟨1, _⟩ => exact Nat.mod_eq_of_lt n.isLt
  unfold G3
  rw [dif_pos (by rw [hp]; exact (ptOf r).isLt), hl, fold0_congr m c _ _ _ (by omega) hp, ← outsAt0_sweep m c _ (ptOf r).isLt]
  obtain ⟨acc, e⟩ := outs_step m c (ptOf r).val (ptOf r).isLt
  rw [e, (step_outputs m c (ptOf r) acc).1]
  exact (congrFun (probsAt_row m c (ptOf r) (inBlk r)) n).trans (by rw [rowAt_ptOf])

variable (h : ∀ r, Ranked (tokenProbs m c r) (ord (tokenProbs m c r)))

/-- Every row of a block is ordered like its token's. -/
theorem blk_ranked (h : ∀ r, Ranked (tokenProbs m c r) (ord (tokenProbs m c r))) (t : Fin cfg0.N) (j : Fin 2048) :
    Ranked (blkRow (probsAt m c t) j) (ord (blkRow (probsAt m c t) j)) := by
  rw [probsAt_row]
  exact h _

include h

/-- The second result: the tokens' chosen experts. -/
theorem choice_array (r : Fin 16384) (k : Fin 8) : G4 m c (ix2 r k) = choice (tokenProbs m c r) k := by
  have hp : pt4Of (ix2 r k) = (ptOf r).val := by
    show 1 * (r.val / 2048 - 0) + 1 * (k.val / 8 - 0) = r.val / 2048
    omega
  have hl : loc4Of (ix2 r k) = ix2 (inBlk r) k := by
    funext a; apply Fin.ext
    match a with
    | ⟨0, _⟩ => rfl
    | ⟨1, _⟩ => exact Nat.mod_eq_of_lt k.isLt
  unfold G4
  rw [dif_pos (by rw [hp]; exact (ptOf r).isLt), hl, fold0_congr m c _ _ _ (by omega) hp, ← outsAt0_sweep m c _ (ptOf r).isLt]
  obtain ⟨acc, e⟩ := outs_step m c (ptOf r).val (ptOf r).isLt
  rw [e, (step_outputs m c (ptOf r) acc).2.1]
  refine (choiceBlk_apply _ _ _ (blk_ranked m c h _ _)).trans ?_
  rw [probsAt_row, rowAt_ptOf]

/-- The third result: the tokens' weights. -/
theorem weight_array (r : Fin 16384) (k : Fin 8) : G5 m c (ix2 r k) = weight (tokenProbs m c r) k := by
  have hp : pt5Of (ix2 r k) = (ptOf r).val := by
    show 1 * (r.val / 2048 - 0) + 1 * (k.val / 8 - 0) = r.val / 2048
    omega
  have hl : loc5Of (ix2 r k) = ix2 (inBlk r) k := by
    funext a; apply Fin.ext
    match a with
    | ⟨0, _⟩ => rfl
    | ⟨1, _⟩ => exact Nat.mod_eq_of_lt k.isLt
  unfold G5
  rw [dif_pos (by rw [hp]; exact (ptOf r).isLt), hl, fold0_congr m c _ _ _ (by omega) hp, ← outsAt0_sweep m c _ (ptOf r).isLt]
  obtain ⟨acc, e⟩ := outs_step m c (ptOf r).val (ptOf r).isLt
  rw [e, (step_outputs m c (ptOf r) acc).2.2]
  refine (weightBlk_apply _ _ _ (blk_ranked m c h _ _)).trans ?_
  rw [probsAt_row, rowAt_ptOf]

/-! ## The running sums and the balance term -/

omit h in
/-- The zero the sums start from. -/
theorem sums_start (i : Fin 2) (n : Fin 64) : k0_pay5 (F := Ideal) (ix2 i n) = 0 := by
  pointwise [k0_pay5]

/-- The sum of a function of the tokens over block `s`. -/
def blockSum (f : Fin 16384 → EReal) (s : ℕ) : EReal := if h : s < cfg0.N then ∑ j, f (rowAt ⟨s, h⟩ j) else 0

omit h in
/-- The eight blocks' sums add up to the sum over all tokens. -/
theorem sum_blocks (f : Fin 16384 → EReal) : ∑ s ∈ Finset.range 8, blockSum f s = ∑ r, f r := by
  rw [Finset.sum_range]
  have e : ∀ s : Fin 8, blockSum f s.val = ∑ j : Fin 2048, f (finProdFinEquiv (m := 8) (n := 2048) (s, j)) := fun s => by
    unfold blockSum
    rw [dif_pos (lt_of_lt_of_eq s.isLt (show 8 = cfg0.N from N_0.symm))]
    refine Finset.sum_congr rfl fun j _ => congrArg f (Fin.ext ?_)
    show s.val * 2048 + j.val = j.val + 2048 * s.val
    omega
  simp only [e]
  rw [← Fintype.sum_prod_type' (f := fun s j => f (finProdFinEquiv (m := 8) (n := 2048) (s, j)))]
  exact Fintype.sum_equiv (finProdFinEquiv (m := 8) (n := 2048)) _ _ fun _ => rfl

/-- After point `n` the first row of the sums holds the probabilities of the blocks so far, the second how often each
    expert was chosen in them. -/
theorem sums_after (e : Fin 64) : ∀ (n : ℕ) (hn : n < cfg0.N),
    sumsAfter m c n hn (ix2 0 e) = ∑ s ∈ Finset.range (n + 1), blockSum (fun r => tokenProbs m c r e) s
      ∧ sumsAfter m c n hn (ix2 1 e) = ∑ s ∈ Finset.range (n + 1), blockSum (fun r => chosen (tokenProbs m c r) e) s
  | n, hn => by
    have p : ∀ acc, sumsBlk (probsAt m c ⟨n, hn⟩) acc (ix2 0 e) = acc (ix2 0 e) + blockSum (fun r => tokenProbs m c r e) n := fun acc => by
      rw [sumsBlk_probs, blockSum, dif_pos hn]
      exact congrArg _ (Finset.sum_congr rfl fun j _ => congrFun (probsAt_row m c ⟨n, hn⟩ j) e)
    have q : ∀ acc, sumsBlk (probsAt m c ⟨n, hn⟩) acc (ix2 1 e)
        = acc (ix2 1 e) + blockSum (fun r => chosen (tokenProbs m c r) e) n := fun acc => by
      rw [sumsBlk_chosen _ _ _ (blk_ranked m c h _), blockSum, dif_pos hn]
      simp only [probsAt_row]
    rw [Finset.sum_range_succ, Finset.sum_range_succ]
    cases n with
    | zero => rw [sumsAfter_zero, p, q, sums_start, sums_start]; exact ⟨rfl, rfl⟩
    | succ n =>
      have ih := sums_after e n (Nat.lt_of_succ_lt hn)
      rw [sumsAfter_succ, p, q, ih.1, ih.2]
      exact ⟨rfl, rfl⟩

omit h in
/-- A factor goes into a sum of non-negative terms. -/
theorem mul_sum_nonneg (a : EReal) (f : Fin 64 → EReal) (hf : ∀ n, 0 ≤ f n) : a * ∑ n, f n = ∑ n, a * f n := by
  have : ∀ s : Finset (Fin 64), a * ∑ n ∈ s, f n = ∑ n ∈ s, a * f n := fun s => by
    induction s using Finset.induction_on with
    | empty => simp
    | insert n s hn ih =>
      rw [Finset.sum_insert hn, Finset.sum_insert hn, ← ih,
        EReal.left_distrib_of_nonneg (hf n) (Finset.sum_nonneg fun n _ => hf n)]
  exact this _

omit h in
/-- The balance term of two rows of sums. -/
theorem pay4_apply (a : Vec Ideal S2x64 .f32) :
    k0_pay4 a (ix2 0 0) = ∑ n : Fin 64, Ideal.ofBits FTy.f32 1115684864#32
      * Ideal.div (a (ix2 1 n)) (Ideal.ofBits FTy.f32 1207959552#32) * Ideal.div (a (ix2 0 n)) (Ideal.ofBits FTy.f32 1182793728#32) := by
  pointwise [k0_pay4]
  simp only [Finset.univ_unique, Finset.sum_singleton]

/-- The balance term of the sums after the last point is the balance term of all tokens. -/
theorem balance_sums (h7 : 7 < cfg0.N) :
    (k0_pay4 (F := Ideal) (sumsAfter m c 7 h7) (ix2 0 0) : EReal) = balance (tokenProbs m c) := by
  rw [pay4_apply]
  unfold balance
  rw [mul_sum_nonneg]
  · refine Finset.sum_congr rfl fun n _ => ?_
    rw [(sums_after m c h n 7 h7).1, (sums_after m c h n 7 h7).2, sum_blocks, sum_blocks, mul_assoc]
  · intro n
    have a : 0 ≤ ∑ r, chosen (tokenProbs m c r) n := Finset.sum_nonneg fun r _ => by unfold chosen; split <;> simp
    have b : 0 ≤ ∑ r, tokenProbs m c r n := Finset.sum_nonneg fun r _ => (h r).nonneg n
    rw [c131072, c16384]
    exact mul_nonneg (div_coe_nonneg a (by norm_num)) (div_coe_nonneg b (by norm_num))

/-- The fourth result: the balance term of all tokens. -/
theorem balance_array : G6 m c (ix2 0 0) = balance (tokenProbs m c) := by
  have h7 : 7 < cfg0.N := lt_of_lt_of_eq (by decide) (show 8 = cfg0.N from N_0.symm)
  rw [G6_last, ← outsAt0_sweep m c 7 h7]
  obtain ⟨acc, e⟩ := outs_step m c 7 h7
  have s : (stAt0 m c 7 h7 acc).2.2.2.2 = sumsAfter m c 7 h7 := congrArg (fun o => o.2.2.2.2) e.symm
  rw [e, step_balance m c ⟨7, h7⟩ acc rfl, s]
  exact balance_sums m c h h7

end Cert.Router
-- ==== Proof.PreUse.lean ====
/-
  What the precondition gives: a normalisation with weight one and bias zero, and rows of probabilities whose nine
  greatest entries fall strictly.
-/
module

public import proofs.«01_k».proof.Proof.HostSpec

@[expose] public section

set_option maxRecDepth 16384

noncomputable section

open Idealize.ShloMosaic
open Cert.ReferenceIdeal

namespace Cert.Router

variable (x : Vec Ideal S4x4096x2048 .f32) (w b : Vec Ideal S2048 .f32) (W1 : Vec Ideal S2048x256 .f32) (W2 : Vec Ideal S256x64 .f32)

/-- A proposition whose bit is set holds. -/
theorem of_bit {P : Prop} [Decidable P] (h : BitVec.ofBool (decide P) = 1#1) : P := by
  by_contra hP
  rw [decide_eq_false hP] at h
  exact absurd h (by decide)

/-- The precondition's first array: the normalisation's weight is one. -/
theorem weight_one (h : (Cert.Pre_plain_norm_no_tie.fn (F := Ideal) x w b W1 W2).1 = fun _ => 1#1) (k : Fin 2048) :
    w (ix1 k) = 1 := by
  rw [pre_eq] at h
  have h' := congrFun h (ix1 k)
  dsimp only at h'
  pointwise [] at h'
  exact of_bit h'

/-- Its second: the normalisation's bias is zero. -/
theorem bias_zero (h : (Cert.Pre_plain_norm_no_tie.fn (F := Ideal) x w b W1 W2).2.1 = fun _ => 1#1) (k : Fin 2048) :
    b (ix1 k) = 0 := by
  rw [pre_eq] at h
  have h' := congrFun h (ix1 k)
  dsimp only at h'
  pointwise [] at h'
  exact of_bit h'

/-- Where each of an array's nine last entries is below the one before it, entry by entry. -/
theorem fall_apply (v : Vec Ideal Cert.Pre_plain_norm_no_tie.S4x4096x9 .f32)
    (h : cmpf (F := Ideal) (φ := .f32) .olt
      (extractStridedSlice Cert.Pre_plain_norm_no_tie.S4x4096x8 ![0, 0, 1] v preFacts.slices_S4x4096x9_S4x4096x8_0_0_1)
      (extractStridedSlice S4x4096x8 ![0, 0, 0] v preFacts.slices_S4x4096x9_S4x4096x8_0_0_0) = fun _ => 1#1)
    (i : Fin 4) (j : Fin 4096) (k : Fin 8) :
    v (ix3 i j ⟨k.val + 1, by omega⟩) < v (ix3 i j ⟨k.val, by omega⟩) := by
  have h' := congrFun h (ix3 i j k)
  pointwise [] at h'
  have h'' := of_bit h'
  simp only [Nat.add_comm 1] at h''
  exact h''

/-- Its third: every token's row of probabilities is ranked by its order. -/
theorem rows_ranked (h : (Cert.Pre_plain_norm_no_tie.fn (F := Ideal) x w b W1 W2).2.2 = fun _ => 1#1) (r : Fin 16384) :
    Ranked (flatRow (probsH x w b W1 W2) r) (ord (flatRow (probsH x w b W1 W2) r)) := by
  rw [pre_eq] at h
  refine ranked_of_strict _ (probsH_bot_or_nonneg x w b W1 W2 (seqOf r) (inSeq r)) fun k => ?_
  have e := fall_apply (top9H (probsH x w b W1 W2)) h (seqOf r) (inSeq r) k
  rw [top9H_val, top9H_val] at e
  exact e

end Cert.Router
-- ==== Proof.Equation.lean ====
/-
  The kernel's four result arrays are the reference's, when the two programs start from the same arguments and these
  meet the precondition.
-/
module

public import proofs.«01_k».proof.Proof.KernelArrays
public import proofs.«01_k».proof.Proof.PreUse
public import proofs.«01_k».proof.Defs

@[expose] public section

set_option maxRecDepth 16384

noncomputable section

open Idealize.ShloMosaic Idealize.ShloMosaic.TcCoe Idealize.SL.Sem

namespace Cert.Router

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two programs' arguments are the same on core `c`. -/
abbrev SameArgs (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)

variable (c : Dev KernelIdeal.nD) (hp : Pre_KernelIdeal_plain_norm_no_tie m) (hs : SameArgs m m' c)

include hp hs

/-- The two programs compute the same row of probabilities for every token. -/
theorem same_probs (r : Fin 16384) : flatRow (probsOf m' c) r = tokenProbs m c r := by
  obtain ⟨e0, e1, e2, e3, e4⟩ := hs
  unfold probsOf
  rw [e0, e1, e2, e3, e4]
  funext n
  exact probsH_apply _ _ _ _ _ (weight_one _ _ _ _ _ (hp c).1) (bias_zero _ _ _ _ _ (hp c).2.1) _ _ n

/-- Every token's row is ranked by its order. -/
theorem tokens_ranked (r : Fin 16384) : Ranked (tokenProbs m c r) (ord (tokenProbs m c r)) := by
  rw [← same_probs m m' c hp hs r]
  obtain ⟨e0, e1, e2, e3, e4⟩ := hs
  unfold probsOf
  rw [e0, e1, e2, e3, e4]
  exact rows_ranked _ _ _ _ _ (hp c).2.2 r

/-- The probabilities agree. -/
theorem probs_agree : ReferenceIdeal.Value.res_out0 m' c = KernelIdeal.Value.G3 m c := by
  rw [res0_eq]
  funext i
  obtain ⟨r, n, rfl⟩ : ∃ (r : Fin 16384) (n : Fin 64), i = ix2 r n := ⟨i 0, i 1, eq_ix2 i⟩
  exact (flat_probs _ r n).trans ((congrFun (same_probs m m' c hp hs r) n).trans (probs_array m c r n).symm)

/-- The chosen experts agree. -/
theorem choice_agree : ReferenceIdeal.Value.res_out1 m' c = KernelIdeal.Value.G4 m c := by
  rw [res1_eq]
  funext i
  obtain ⟨r, k, rfl⟩ : ∃ (r : Fin 16384) (k : Fin 8), i = ix2 r k := ⟨i 0, i 1, eq_ix2 i⟩
  refine (flat_choice _ r k).trans (Eq.trans ?_ (choice_array m c (tokens_ranked m m' c hp hs) r k).symm)
  rw [same_probs m m' c hp hs r]

/-- The load-balancing terms agree. -/
theorem balance_agree : ReferenceIdeal.Value.res_out2 m' c = KernelIdeal.Value.G6 m c := by
  rw [res2_eq]
  funext i
  obtain rfl : i = ix2 0 0 := by
    funext a
    fin_cases a <;> exact Subsingleton.elim (α := Fin 1) _ _
  refine (flat_balance _ _).trans (Eq.trans ?_ (balance_array m c (tokens_ranked m m' c hp hs)).symm)
  rw [funext (same_probs m m' c hp hs)]

/-- The weights agree. -/
theorem weight_agree : ReferenceIdeal.Value.res_out3 m' c = KernelIdeal.Value.G5 m c := by
  rw [res3_eq]
  funext i
  obtain ⟨r, k, rfl⟩ : ∃ (r : Fin 16384) (k : Fin 8), i = ix2 r k := ⟨i 0, i 1, eq_ix2 i⟩
  refine (flat_weight _ r k).trans (Eq.trans ?_ (weight_array m c (tokens_ranked m m' c hp hs) r k).symm)
  rw [same_probs m m' c hp hs r]

end Cert.Router
-- ==== Proof.lean ====
/-
  The proof of the certificate's claim.

  * The frames: the generated modules prove that the kernel's and its ideal reading's arguments end unchanged and that
    every counter ends at zero; the reference declares no counter, so its generated run is enough.
  * The idealization replaces no operation, so that it preserves the kernel is immediate.
  * The equation: the two generated runs leave the kernel's four arrays and the reference's four results, and the
    theorems of Proof/Equation.lean say that these are equal.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The reference's arguments end unchanged, and it has no counter that could end elsewhere than at zero. -/
theorem reference_frame : Cert.quiescent_ReferenceIdeal := fun m g _ =>
  (θ_run ReferenceIdeal.defs _ _).mono
    (fun r h => ⟨fun c => (h c).2.2.2.2, sem_eq_zero_of_no_sems (by decide) r.2⟩)
    (ReferenceIdeal.Value.run (F := Ideal) m g)

/-- Kernel and reference, from the same arguments under the precondition, end with the same four results. -/
theorem equation : Cert.algebraic_KernelIdeal_ReferenceIdeal_pre_plain_norm_no_tie
    (hPre_plain_norm_no_tie := Router.preFacts) := by
  intro m g m' g' hp hs
  refine ⟨KernelIdeal.Value.G3 m, KernelIdeal.Value.G4 m, KernelIdeal.Value.G6 m, KernelIdeal.Value.G5 m,
    (θ_run KernelIdeal.defs _ _).mono (fun r h c => ?_) (KernelIdeal.Value.run (F := Ideal) m g),
    (θ_run ReferenceIdeal.defs _ _).mono (fun r h c => ?_) (ReferenceIdeal.Value.run (F := Ideal) m' g')⟩
  · obtain ⟨probs, choice, weight, balance, args⟩ := h c
    exact ⟨probs, choice, balance, weight, args⟩
  · obtain ⟨probs, choice, balance, weight, args⟩ := h c
    exact ⟨probs.trans (Router.probs_agree m m' c hp (hs c)), choice.trans (Router.choice_agree m m' c hp (hs c)),
      balance.trans (Router.balance_agree m m' c hp (hs c)), weight.trans (Router.weight_agree m m' c hp (hs c)), args⟩

theorem claim : Cert.Claim :=
  ⟨Kernel.Gen.facts, KernelIdeal.Gen.facts, ReferenceIdeal.Gen.facts, Router.preFacts,
    fun m g _ => Kernel.Gen.frame m g,
    fun m g _ => KernelIdeal.Gen.frame m g,
    fun m g _ => KernelIdeal.Gen.frame m g,
    reference_frame,
    fun m g _ => reference_frame m g trivial,
    trivial,
    equation⟩

end Cert.Proof

end
